-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000 : Shape := ⟨1, ![100000]⟩
abbrev S1 : Shape := ⟨1, ![1]⟩
abbrev S100000x3 : Shape := ⟨2, ![100000, 3]⟩
abbrev S100000x256 : Shape := ⟨2, ![100000, 256]⟩
abbrev S256x256 : Shape := ⟨2, ![256, 256]⟩
abbrev S256 : Shape := ⟨1, ![256]⟩
abbrev S256x3 : Shape := ⟨2, ![256, 3]⟩
abbrev S3 : Shape := ⟨1, ![3]⟩
abbrev S256x4 : Shape := ⟨2, ![256, 4]⟩
abbrev S4 : Shape := ⟨1, ![4]⟩
abbrev S1x100000 : Shape := ⟨2, ![1, 100000]⟩
abbrev S256x10 : Shape := ⟨2, ![256, 10]⟩
abbrev S10 : Shape := ⟨1, ![10]⟩
abbrev S10x1 : Shape := ⟨2, ![10, 1]⟩
abbrev S1x256 : Shape := ⟨2, ![1, 256]⟩
abbrev S3x100000 : Shape := ⟨2, ![3, 100000]⟩
abbrev S4x100000 : Shape := ⟨2, ![4, 100000]⟩
abbrev S3x16x100000 : Shape := ⟨3, ![3, 16, 100000]⟩
abbrev S1x12800 : Shape := ⟨2, ![1, 12800]⟩
abbrev S12800x256 : Shape := ⟨2, ![12800, 256]⟩
abbrev S3x12800 : Shape := ⟨2, ![3, 12800]⟩
abbrev S4x12800 : Shape := ⟨2, ![4, 12800]⟩
abbrev S3x16x12800 : Shape := ⟨3, ![3, 16, 12800]⟩
abbrev S10x12800 : Shape := ⟨2, ![10, 12800]⟩
abbrev S100000x4 : Shape := ⟨2, ![100000, 4]⟩
abbrev S_ : Shape := ⟨0, ![]⟩
abbrev S100000x1 : Shape := ⟨2, ![100000, 1]⟩
abbrev S100000x16x3 : Shape := ⟨3, ![100000, 16, 3]⟩

abbrev nBuf : Space → Nat
  | .hbm => 37
  | .vmem => 20
  | .smem => 0
  | _ => 0

abbrev bufTy : (tb : Table) → Fin (tcTables nBuf tb) → BufTy
  | .hbm, ⟨0, _⟩ => ⟨S100000, .i1⟩
  | .hbm, ⟨1, _⟩ => ⟨S1, .f32⟩
  | .hbm, ⟨2, _⟩ => ⟨S100000x3, .f32⟩
  | .hbm, ⟨3, _⟩ => ⟨S100000x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x3, .f32⟩
  | .hbm, ⟨11, _⟩ => ⟨S3, .f32⟩
  | .hbm, ⟨12, _⟩ => ⟨S256x3, .f32⟩
  | .hbm, ⟨13, _⟩ => ⟨S3, .f32⟩
  | .hbm, ⟨14, _⟩ => ⟨S256x4, .f32⟩
  | .hbm, ⟨15, _⟩ => ⟨S4, .f32⟩
  | .hbm, ⟨16, _⟩ => ⟨S100000, .f32⟩
  | .hbm, ⟨17, _⟩ => ⟨S1x100000, .f32⟩
  | .hbm, ⟨18, _⟩ => ⟨S256x10, .f32⟩
  | .hbm, ⟨19, _⟩ => ⟨S10, .f32⟩
  | .hbm, ⟨20, _⟩ => ⟨S10x1, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S3x100000, .f32⟩
  | .hbm, ⟨28, _⟩ => ⟨S3x100000, .f32⟩
  | .hbm, ⟨29, _⟩ => ⟨S4x100000, .f32⟩
  | .hbm, ⟨30, _⟩ => ⟨S3x16x100000, .f32⟩
  | .hbm, ⟨31, _⟩ => ⟨S100000x3, .f32⟩
  | .hbm, ⟨32, _⟩ => ⟨S100000x3, .f32⟩
  | .hbm, ⟨33, _⟩ => ⟨S100000x4, .f32⟩
  | .hbm, ⟨34, _⟩ => ⟨S_, .f32⟩
  | .hbm, ⟨35, _⟩ => ⟨S100000x1, .f32⟩
  | .hbm, ⟨36, _⟩ => ⟨S100000x16x3, .f32⟩
  | .local _ .vmem, ⟨0, _⟩ => ⟨S1x12800, .f32⟩
  | .local _ .vmem, ⟨1, _⟩ => ⟨S1x12800, .f32⟩
  | .local _ .vmem, ⟨2, _⟩ => ⟨S12800x256, .f32⟩
  | .local _ .vmem, ⟨3, _⟩ => ⟨S12800x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x10, .f32⟩
  | .local _ .vmem, ⟨11, _⟩ => ⟨S10x1, .f32⟩
  | .local _ .vmem, ⟨12, _⟩ => ⟨S3x12800, .f32⟩
  | .local _ .vmem, ⟨13, _⟩ => ⟨S3x12800, .f32⟩
  | .local _ .vmem, ⟨14, _⟩ => ⟨S3x12800, .f32⟩
  | .local _ .vmem, ⟨15, _⟩ => ⟨S3x12800, .f32⟩
  | .local _ .vmem, ⟨16, _⟩ => ⟨S4x12800, .f32⟩
  | .local _ .vmem, ⟨17, _⟩ => ⟨S4x12800, .f32⟩
  | .local _ .vmem, ⟨18, _⟩ => ⟨S3x16x12800, .f32⟩
  | .local _ .vmem, ⟨19, _⟩ => ⟨S3x16x12800, .f32⟩
  | _, _ => ⟨S100000, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x12800 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x12800 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x12800 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x16x12800 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S100000 : Shape := ⟨1, ![100000]⟩
abbrev S1 : Shape := ⟨1, ![1]⟩
abbrev S100000x3 : Shape := ⟨2, ![100000, 3]⟩
abbrev S100000x256 : Shape := ⟨2, ![100000, 256]⟩
abbrev S256x256 : Shape := ⟨2, ![256, 256]⟩
abbrev S256 : Shape := ⟨1, ![256]⟩
abbrev S256x3 : Shape := ⟨2, ![256, 3]⟩
abbrev S3 : Shape := ⟨1, ![3]⟩
abbrev S256x4 : Shape := ⟨2, ![256, 4]⟩
abbrev S4 : Shape := ⟨1, ![4]⟩
abbrev S100000x1 : Shape := ⟨2, ![100000, 1]⟩
abbrev S1x256 : Shape := ⟨2, ![1, 256]⟩
abbrev S_ : Shape := ⟨0, ![]⟩
abbrev S1x3 : Shape := ⟨2, ![1, 3]⟩
abbrev S100000x4 : Shape := ⟨2, ![100000, 4]⟩
abbrev S1x4 : Shape := ⟨2, ![1, 4]⟩
abbrev S100000x48 : Shape := ⟨2, ![100000, 48]⟩
abbrev S100000x16x3 : Shape := ⟨3, ![100000, 16, 3]⟩

abbrev nBuf : Space → Nat
  | .hbm => 70
  | .vmem => 0
  | .smem => 0
  | _ => 0

abbrev bufTy : (tb : Table) → Fin (tcTables nBuf tb) → BufTy
  | .hbm, ⟨0, _⟩ => ⟨S100000, .i1⟩
  | .hbm, ⟨1, _⟩ => ⟨S1, .f32⟩
  | .hbm, ⟨2, _⟩ => ⟨S100000x3, .f32⟩
  | .hbm, ⟨3, _⟩ => ⟨S100000x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x3, .f32⟩
  | .hbm, ⟨11, _⟩ => ⟨S3, .f32⟩
  | .hbm, ⟨12, _⟩ => ⟨S256x3, .f32⟩
  | .hbm, ⟨13, _⟩ => ⟨S3, .f32⟩
  | .hbm, ⟨14, _⟩ => ⟨S256x4, .f32⟩
  | .hbm, ⟨15, _⟩ => ⟨S4, .f32⟩
  | .hbm, ⟨16, _⟩ => ⟨S100000x1, .i1⟩
  | .hbm, ⟨17, _⟩ => ⟨S100000x256, .f32⟩
  | .hbm, ⟨18, _⟩ => ⟨S1x256, .f32⟩
  | .hbm, ⟨19, _⟩ => ⟨S100000x256, .f32⟩
  | .hbm, ⟨20, _⟩ => ⟨S100000x256, .f32⟩
  | .hbm, ⟨21, _⟩ => ⟨S_, .f32⟩
  | .hbm, ⟨22, _⟩ => ⟨S100000x256, .f32⟩
  | .hbm, ⟨23, _⟩ => ⟨S100000x256, .f32⟩
  | .hbm, ⟨24, _⟩ => ⟨S100000x256, .f32⟩
  | .hbm, ⟨25, _⟩ => ⟨S1x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S100000x256, .f32⟩
  | .hbm, ⟨32, _⟩ => ⟨S1x256, .f32⟩
  | .hbm, ⟨33, _⟩ => ⟨S100000x256, .f32⟩
  | .hbm, ⟨34, _⟩ => ⟨S100000x256, .f32⟩
  | .hbm, ⟨35, _⟩ => ⟨S_, .f32⟩
  | .hbm, ⟨36, _⟩ => ⟨S100000x256, .f32⟩
  | .hbm, ⟨37, _⟩ => ⟨S100000x256, .f32⟩
  | .hbm, ⟨38, _⟩ => ⟨S100000x3, .f32⟩
  | .hbm, ⟨39, _⟩ => ⟨S1x3, .f32⟩
  | .hbm, ⟨40, _⟩ => ⟨S100000x3, .f32⟩
  | .hbm, ⟨41, _⟩ => ⟨S100000x3, .f32⟩
  | .hbm, ⟨42, _⟩ => ⟨S_, .f32⟩
  | .hbm, ⟨43, _⟩ => ⟨S_, .f32⟩
  | .hbm, ⟨44, _⟩ => ⟨S100000x3, .i1⟩
  | .hbm, ⟨45, _⟩ => ⟨S100000x3, .f32⟩
  | .hbm, ⟨46, _⟩ => ⟨S100000x3, .f32⟩
  | .hbm, ⟨47, _⟩ => ⟨S100000x3, .f32⟩
  | .hbm, ⟨48, _⟩ => ⟨S1x3, .f32⟩
  | .hbm, ⟨49, _⟩ => ⟨S100000x3, .f32⟩
  | .hbm, ⟨50, _⟩ => ⟨S100000x3, .f32⟩
  | .hbm, ⟨51, _⟩ => ⟨S_, .f32⟩
  | .hbm, ⟨52, _⟩ => ⟨S_, .f32⟩
  | .hbm, ⟨53, _⟩ => ⟨S100000x3, .i1⟩
  | .hbm, ⟨54, _⟩ => ⟨S100000x3, .f32⟩
  | .hbm, ⟨55, _⟩ => ⟨S100000x3, .f32⟩
  | .hbm, ⟨56, _⟩ => ⟨S100000x4, .f32⟩
  | .hbm, ⟨57, _⟩ => ⟨S1x4, .f32⟩
  | .hbm, ⟨58, _⟩ => ⟨S100000x4, .f32⟩
  | .hbm, ⟨59, _⟩ => ⟨S100000x4, .f32⟩
  | .hbm, ⟨60, _⟩ => ⟨S_, .f32⟩
  | .hbm, ⟨61, _⟩ => ⟨S_, .f32⟩
  | .hbm, ⟨62, _⟩ => ⟨S100000x4, .i1⟩
  | .hbm, ⟨63, _⟩ => ⟨S100000x4, .f32⟩
  | .hbm, ⟨64, _⟩ => ⟨S100000x4, .f32⟩
  | .hbm, ⟨65, _⟩ => ⟨S_, .f32⟩
  | .hbm, ⟨66, _⟩ => ⟨S100000x1, .f32⟩
  | .hbm, ⟨67, _⟩ => ⟨S_, .f32⟩
  | .hbm, ⟨68, _⟩ => ⟨S100000x48, .f32⟩
  | .hbm, ⟨69, _⟩ => ⟨S100000x16x3, .f32⟩
  | _, _ => ⟨S100000, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_cst : Ref sig .tc := ⟨.hbm, 28, rfl⟩
abbrev main_call1_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call2_cst : Ref sig .tc := ⟨.hbm, 35, rfl⟩
abbrev main_call2_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_0 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_1 : Ref sig .tc := ⟨.hbm, 60, rfl⟩
abbrev main_call5_v0 : Ref sig .tc := ⟨.hbm, 61, rfl⟩
abbrev main_call5_v1 : Ref sig .tc := ⟨.hbm, 62, rfl⟩
abbrev main_call5_v2 : Ref sig .tc := ⟨.hbm, 63, rfl⟩
abbrev main_v30 : Ref sig .tc := ⟨.hbm, 64, rfl⟩
abbrev main_cst_2 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩

abbrev nD : Nat := 1
abbrev τ : Topo := Topo.v7x

variable {F : FTy → Type} [FloatOps F]
-- ==== Proof.KernelFrame.lean ====
/- The run of @main of the program `Kernel` with the results' contents forgotten, at any float values: every argument is
   unchanged and every semaphore counter ends at zero. -/
module

public import proofs.«01_k».proof.Proof.KernelBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays at their contents at the region's entry; after the body each input's buffer holds its block,
    filled out with the zero word where the block overhangs its array; of the results nothing is said. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The windows whose contents are forgotten: the four results'. -/
def forgotten (w : Fin cfg0.W) : Bool := decide (10 ≤ w.val)

/-- The pipeline's call of the body at point `t` is the body on that point's staging buffers. -/
theorem body_row (t : Fin cfg0.N) :
    (defs₀ (F := F)) .tc cfg0.body (cfg0.bodyArgs t (cfg0.slots t)) = bodyAt0 t := by
  unfold defs₀; rw [Defs.onTc_tc]

/-- A window whose block overhangs its array arrives holding its block, filled out with anything. -/
theorem before_0 (c : Dev nD) (t : Fin cfg0.N) (d) :
    (dats m 0 c).before (0 : Fin 14) t d = win0_0.fill (grid0.coords t) d (iblk m c 0 t) := by
  unfold Dat.before; rw [if_pos (fetch0_0 t)]; rfl
/-- The features' window likewise. -/
theorem before_1 (c : Dev nD) (t : Fin cfg0.N) (d) :
    (dats m 0 c).before (1 : Fin 14) t d = win0_1.fill (grid0.coords t) d (iblk m c 1 t) := by
  unfold Dat.before; rw [if_pos (fetch0_1 t)]; rfl

/-- What the body is run from at point `t`. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before (0 : Fin 14) t d))
    ∗ (∃ d, owns (c : Thread nD τ) ((cfg0.win 1).stage (cfg0.slots t 1)) fullShare ((dats m 0 c).before (1 : Fin 14) t d))
    ∗ (∃ d, owns (c : Thread nD τ) ((cfg0.win 2).stage (cfg0.slots t 2)) fullShare ((dats m 0 c).before (2 : Fin 14) t d))
    ∗ (∃ d, owns (c : Thread nD τ) ((cfg0.win 3).stage (cfg0.slots t 3)) fullShare ((dats m 0 c).before (3 : Fin 14) t d))
    ∗ (∃ d, owns (c : Thread nD τ) ((cfg0.win 4).stage (cfg0.slots t 4)) fullShare ((dats m 0 c).before (4 : Fin 14) t d))
    ∗ (∃ d, owns (c : Thread nD τ) ((cfg0.win 5).stage (cfg0.slots t 5)) fullShare ((dats m 0 c).before (5 : Fin 14) t d))
    ∗ (∃ d, owns (c : Thread nD τ) ((cfg0.win 6).stage (cfg0.slots t 6)) fullShare ((dats m 0 c).before (6 : Fin 14) t d))
    ∗ (∃ d, owns (c : Thread nD τ) ((cfg0.win 7).stage (cfg0.slots t 7)) fullShare ((dats m 0 c).before (7 : Fin 14) t d))
    ∗ (∃ d, owns (c : Thread nD τ) ((cfg0.win 8).stage (cfg0.slots t 8)) fullShare ((dats m 0 c).before (8 : Fin 14) t d))
    ∗ (∃ d, owns (c : Thread nD τ) ((cfg0.win 9).stage (cfg0.slots t 9)) fullShare ((dats m 0 c).before (9 : Fin 14) t d))
    ∗ (∃ d, owns (c : Thread nD τ) ((cfg0.win 10).stage (cfg0.slots t 10)) fullShare d)
    ∗ (∃ d, owns (c : Thread nD τ) ((cfg0.win 11).stage (cfg0.slots t 11)) fullShare d)
    ∗ (∃ d, owns (c : Thread nD τ) ((cfg0.win 12).stage (cfg0.slots t 12)) fullShare d)
    ∗ (∃ d, owns (c : Thread nD τ) ((cfg0.win 13).stage (cfg0.slots t 13)) fullShare d))

/-- What it ends with. -/
def bodyPost (c : Dev nD) (t : Fin cfg0.N) : sProp 𝕄 :=
  iprop((dats m 0 c).Φ t.succ ∗ (dats m 0 c).owesAt () t.succ
    ∗ (∃ d, owns (c : Thread nD τ) ((cfg0.win 0).stage (cfg0.slots t 0)) fullShare (win0_0.fill (grid0.coords t) d (win0_0.cut (grid0.coords t) ((dats m 0 c).after (0 : Fin 14) t))))
    ∗ (∃ d, owns (c : Thread nD τ) ((cfg0.win 1).stage (cfg0.slots t 1)) fullShare (win0_1.fill (grid0.coords t) d (win0_1.cut (grid0.coords t) ((dats m 0 c).after (1 : Fin 14) t))))
    ∗ owns (c : Thread nD τ) ((cfg0.win 2).stage (cfg0.slots t 2)) fullShare ((dats m 0 c).after (2 : Fin 14) t)
    ∗ owns (c : Thread nD τ) ((cfg0.win 3).stage (cfg0.slots t 3)) fullShare ((dats m 0 c).after (3 : Fin 14) t)
    ∗ owns (c : Thread nD τ) ((cfg0.win 4).stage (cfg0.slots t 4)) fullShare ((dats m 0 c).after (4 : Fin 14) t)
    ∗ owns (c : Thread nD τ) ((cfg0.win 5).stage (cfg0.slots t 5)) fullShare ((dats m 0 c).after (5 : Fin 14) t)
    ∗ owns (c : Thread nD τ) ((cfg0.win 6).stage (cfg0.slots t 6)) fullShare ((dats m 0 c).after (6 : Fin 14) t)
    ∗ owns (c : Thread nD τ) ((cfg0.win 7).stage (cfg0.slots t 7)) fullShare ((dats m 0 c).after (7 : Fin 14) t)
    ∗ owns (c : Thread nD τ) ((cfg0.win 8).stage (cfg0.slots t 8)) fullShare ((dats m 0 c).after (8 : Fin 14) t)
    ∗ owns (c : Thread nD τ) ((cfg0.win 9).stage (cfg0.slots t 9)) fullShare ((dats m 0 c).after (9 : Fin 14) t)
    ∗ (∃ d, owns (c : Thread nD τ) ((cfg0.win 10).stage (cfg0.slots t 10)) fullShare d)
    ∗ (∃ d, owns (c : Thread nD τ) ((cfg0.win 11).stage (cfg0.slots t 11)) fullShare d)
    ∗ (∃ d, owns (c : Thread nD τ) ((cfg0.win 12).stage (cfg0.slots t 12)) fullShare d)
    ∗ (∃ d, owns (c : Thread nD τ) ((cfg0.win 13).stage (cfg0.slots t 13)) fullShare d))

set_option maxHeartbeats 1000000 in
/-- The body at point `t`, on that point's staging buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_0 m c t d0, before_1 m c t d1,
    before0_2_of m (dats m 0 c) rfl (fun _ => rfl) t d2,
    before0_3_of m (dats m 0 c) rfl (fun _ => rfl) t d3,
    before0_4_of m (dats m 0 c) rfl (fun _ => rfl) t d4,
    before0_5_of m (dats m 0 c) rfl (fun _ => rfl) t d5,
    before0_6_of m (dats m 0 c) rfl (fun _ => rfl) t d6,
    before0_7_of m (dats m 0 c) rfl (fun _ => rfl) t d7,
    before0_8_of m (dats m 0 c) rfl (fun _ => rfl) t d8,
    before0_9_of m (dats m 0 c) rfl (fun _ => rfl) t d9]
  iapply (sound_kernel c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13))
    (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists d10; iexact H10
  isplitl [H11]; · iexists d11; iexact H11
  isplitl [H12]; · iexists d12; iexact H12
  isplitl [H13]; · iexists d13; iexact H13
  iintro ⟨H0, H1, H2, H3, H4, H5, H6, H7, H8, H9, H10, H11, H12, H13⟩
  isplitl [HΦ]; · iexact HΦ
  isplitl [Ho]; · iexact Ho
  isplitl [H0]
  · iexists d0
    rw [show win0_0.cut (grid0.coords t) ((dats m 0 c).after (0 : Fin 14) t) = iblk m c 0 t from win0_0.cut_fill _ _ _]
    iexact H0
  isplitl [H1]
  · iexists d1
    rw [show win0_1.cut (grid0.coords t) ((dats m 0 c).after (1 : Fin 14) t) = iblk m c 1 t from win0_1.cut_fill _ _ _]
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iexists _; iexact H13

/-- The pipeline's obligation of the body, the results' windows forgotten. -/
theorem body_obligation (c : Dev nD) :
    BodyObligationLoose (dats m 0 c) (defs₀ (F := F)) Variants.none () Set.univ forgotten := fun t => by
  rw [bigSep_W0, bigSep_W0, body_row]
  exact triple_restated (sound_body m c t) rfl .rfl fun _ => .rfl

/-- The buffers the lines after the region write. -/
def written : Finset (Ref sig .tc) := {main_v12, main_v13, main_v14, main_cst, main_v15, main_v16}

/-- Each line after the region writes one of `written`. -/
theorem writes_written : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl | rfl | rfl | rfl
  all_goals
    simp only [StableHlo.nullary_writes, StableHlo.unary_writes, Finset.mem_singleton] at hb
    obtain rfl := Proc.devRef_injective (τ := τ) _ hb
    decide

set_option backward.isDefEq.respectTransparency.types false in
/-- From any memory with zero counters, every weakly fair execution of @main terminates with every argument as it was and
    every semaphore counter at zero. -/
theorem run_quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  Pipeline.θ_run_frame_around_T_forget cfgs (dats m) 0 launch0 defs₀ Variants.none forgotten written m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := writes_written)
    (hmain := hmain m Variants.none) (hA := fun _ _ => rfl) (hΦ := fun _ _ => rfl)
    (Q' := _) (hQ' := fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      (Pipeline.RDat.FramePostR.arr_in h.1 c 1 rfl).trans (V_main_arg3 m c),
      (Pipeline.RDat.FramePostR.arr_in h.1 c 2 rfl).trans (V_main_arg4 m c),
      ((h.1 c).2 main_arg5 (Finset.mem_sdiff.mpr ⟨Pipeline.mem_restRefs_of main_arg5 (by decide) (by decide), by decide⟩)).trans (V_main_arg5 m c),
      (Pipeline.RDat.FramePostR.arr_in h.1 c 4 rfl).trans (V_main_arg6 m c),
      ((h.1 c).2 main_arg7 (Finset.mem_sdiff.mpr ⟨Pipeline.mem_restRefs_of main_arg7 (by decide) (by decide), by decide⟩)).trans (V_main_arg7 m c),
      (Pipeline.RDat.FramePostR.arr_in h.1 c 6 rfl).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c),
      ((h.1 c).2 main_arg12 (Finset.mem_sdiff.mpr ⟨Pipeline.mem_restRefs_of main_arg12 (by decide) (by decide), by decide⟩)).trans (V_main_arg12 m c),
      ((h.1 c).2 main_arg13 (Finset.mem_sdiff.mpr ⟨Pipeline.mem_restRefs_of main_arg13 (by decide) (by decide), by decide⟩)).trans (V_main_arg13 m c),
      ((h.1 c).2 main_arg14 (Finset.mem_sdiff.mpr ⟨Pipeline.mem_restRefs_of main_arg14 (by decide) (by decide), by decide⟩)).trans (V_main_arg14 m c),
      ((h.1 c).2 main_arg15 (Finset.mem_sdiff.mpr ⟨Pipeline.mem_restRefs_of main_arg15 (by decide) (by decide), by decide⟩)).trans (V_main_arg15 m c)⟩, h.2⟩)

end Cert.Kernel.Hand

end
-- ==== Proof.KernelIdealBody.lean ====
/- The kernel body's run over whole staging buffers, for the program `KernelIdeal`. -/
module

public import proofs.«01_k».proof.Proof.Gen.KernelIdeal.Skeleton
public import proofs.«01_k».proof.Proof.Gen.KernelIdeal.Frame
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Two zero offsets. -/
theorem zeros2 : (![0, 0] : Fin 2 → Nat) = fun _ => 0 := by funext a; fin_cases a <;> rfl
/-- Three zero offsets. -/
theorem zeros3 : (![0, 0, 0] : Fin 3 → Nat) = fun _ => 0 := by funext a; fin_cases a <;> rfl
/-- A load of a whole buffer reads its contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    View.readAt (Elt F) v (Rect.unit off S.size inb).toLoadRect f = View.read (Elt F) v f :=
  View.ld_unit_zero h inb (View.read (Elt F) v f)
/-- A store over a whole buffer leaves its payload. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    View.read (Elt F) v (v.writes (Elt F) f [⟨Rect.unit off S.size inb, w⟩]) = w :=
  (View.read_writes_eq_canon v f _ (fun y => ⟨_, List.mem_singleton_self _, View.mem_set_unit_zero h inb y⟩)).trans
    (View.canon_unit_zero h inb w)

set_option maxHeartbeats 1000000 in
/-- On fourteen whole staging buffers, the inputs' holding `x0` … `x9` and the results' holding anything, the body ends with
    the inputs' as they were and each result's holding its payload of them. -/
theorem sound_kernel (c : Dev nD) (E : Set ℕ) (i : grid0.Coords) (arg1 : Memref sig .tc .vmem S1x12800 .f32) (harg1 : arg1.IsWhole) (arg2 : Memref sig .tc .vmem S12800x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x10 .f32) (harg9 : arg9.IsWhole) (arg10 : Memref sig .tc .vmem S10x1 .f32) (harg10 : arg10.IsWhole) (arg11 : Memref sig .tc .vmem S3x12800 .f32) (harg11 : arg11.IsWhole) (arg12 : Memref sig .tc .vmem S3x12800 .f32) (harg12 : arg12.IsWhole) (arg13 : Memref sig .tc .vmem S4x12800 .f32) (harg13 : arg13.IsWhole) (arg14 : Memref sig .tc .vmem S3x16x12800 .f32) (harg14 : arg14.IsWhole)
    (x0 : Vec F S1x12800 .f32) (x1 : Vec F S12800x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x10 .f32) (x9 : Vec F S10x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (k0_pay2 (k0_pay6 x1 x2 x3 x4 x5 x6 x7 x8 x9) x0)
        ∗ owns (c : Thread nD τ) arg12 fullShare (k0_pay3 (k0_pay6 x1 x2 x3 x4 x5 x6 x7 x8 x9) x0)
        ∗ owns (c : Thread nD τ) arg13 fullShare (k0_pay4 (k0_pay6 x1 x2 x3 x4 x5 x6 x7 x8 x9) x0)
        ∗ owns (c : Thread nD τ) arg14 fullShare (k0_pay5 (F := F))) -∗ K ⟨⟩))
      ⊢ wp frame (wpE (defs₀ (F := F)) Variants.none c none) E (cc0__mlp_block i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_block_eq_skeleton]; unfold cc0__mlp_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    refine (read_writes_whole (S := S3x12800) _ _ zeros2 _ _).trans ?_
    unfold sound_kernel.sl.r
    rw [readAt_whole (S := S1x12800) arg1.view f0 zeros2, readAt_whole (S := S12800x256) arg2.view f1 zeros2, readAt_whole (S := S256x256) arg3.view f2 zeros2, readAt_whole (S := S1x256) arg4.view f3 zeros2, readAt_whole (S := S256x256) arg5.view f4 zeros2, readAt_whole (S := S1x256) arg6.view f5 zeros2, readAt_whole (S := S256x256) arg7.view f6 zeros2, readAt_whole (S := S1x256) arg8.view f7 zeros2, readAt_whole (S := S256x10) arg9.view f8 zeros2, readAt_whole (S := S10x1) arg10.view f9 zeros2]
  isplitl [H11]
  · iexists _; isplitr; swap; · iexact H11
    ipureintro
    refine (read_writes_whole (S := S3x12800) _ _ zeros2 _ _).trans ?_
    unfold sound_kernel.sl.r
    rw [readAt_whole (S := S1x12800) arg1.view f0 zeros2, readAt_whole (S := S12800x256) arg2.view f1 zeros2, readAt_whole (S := S256x256) arg3.view f2 zeros2, readAt_whole (S := S1x256) arg4.view f3 zeros2, readAt_whole (S := S256x256) arg5.view f4 zeros2, readAt_whole (S := S1x256) arg6.view f5 zeros2, readAt_whole (S := S256x256) arg7.view f6 zeros2, readAt_whole (S := S1x256) arg8.view f7 zeros2, readAt_whole (S := S256x10) arg9.view f8 zeros2, readAt_whole (S := S10x1) arg10.view f9 zeros2]
  isplitl [H12]
  · iexists _; isplitr; swap; · iexact H12
    ipureintro
    refine (read_writes_whole (S := S4x12800) _ _ zeros2 _ _).trans ?_
    unfold sound_kernel.sl.r
    rw [readAt_whole (S := S1x12800) arg1.view f0 zeros2, readAt_whole (S := S12800x256) arg2.view f1 zeros2, readAt_whole (S := S256x256) arg3.view f2 zeros2, readAt_whole (S := S1x256) arg4.view f3 zeros2, readAt_whole (S := S256x256) arg5.view f4 zeros2, readAt_whole (S := S1x256) arg6.view f5 zeros2, readAt_whole (S := S256x256) arg7.view f6 zeros2, readAt_whole (S := S1x256) arg8.view f7 zeros2, readAt_whole (S := S256x10) arg9.view f8 zeros2, readAt_whole (S := S10x1) arg10.view f9 zeros2]
  iexists _; isplitr; swap; · iexact H13
  ipureintro
  exact read_writes_whole (S := S3x16x12800) _ _ zeros3 _ _

end Cert.KernelIdeal.Hand

end
-- ==== Proof.Net.lean ====
/- The mathematics the kernel and the reference share: a three-layer perceptron of one point's feature row, and one
   output of a linear head over its last layer. -/
module

public import Idealize.ShloMosaic.Lib.Pointwise
public import Idealize.ShloMosaic.Lib.ValueIdx

@[expose] public section

noncomputable section

namespace Cert.Net

open scoped BigOperators

/-- One layer of the perceptron: the row times the matrix, plus the bias, cut off below at zero. -/
def layer (w : Fin 256 → Fin 256 → EReal) (b : Fin 256 → EReal) (h : Fin 256 → EReal) (j : Fin 256) : EReal :=
  max ((∑ k : Fin 256, h k * w k j) + b j) 0

/-- The three layers one after the other. -/
def deep (w₁ : Fin 256 → Fin 256 → EReal) (b₁ : Fin 256 → EReal) (w₂ : Fin 256 → Fin 256 → EReal) (b₂ : Fin 256 → EReal)
    (w₃ : Fin 256 → Fin 256 → EReal) (b₃ : Fin 256 → EReal) (x : Fin 256 → EReal) : Fin 256 → EReal :=
  layer w₃ b₃ (layer w₂ b₂ (layer w₁ b₁ x))

/-- One output of a linear head: the row times one column, plus that column's bias. -/
def head (w : Fin 256 → EReal) (b : EReal) (h : Fin 256 → EReal) : EReal := (∑ k : Fin 256, h k * w k) + b

/-- A masked value: the value where the mask bit is set, zero elsewhere. -/
def keep (b : BitVec 1) (y : EReal) : EReal := if b = 1#1 then y else 0

/-- A linear head's output at equal columns, biases and rows. -/
theorem head_congr {w w' : Fin 256 → EReal} {b b' : EReal} {h h' : Fin 256 → EReal}
    (hw : ∀ k, w k = w' k) (hb : b = b') (hh : h = h') : head w b h = head w' b' h' := by
  obtain rfl : w = w' := funext hw
  rw [hb, hh]

/-- The three layers at equal matrices, biases and rows. -/
theorem deep_congr {w₁ w₁' w₂ w₂' w₃ w₃' : Fin 256 → Fin 256 → EReal} {b₁ b₁' b₂ b₂' b₃ b₃' x x' : Fin 256 → EReal}
    (hw₁ : ∀ k j, w₁ k j = w₁' k j) (hb₁ : ∀ j, b₁ j = b₁' j) (hw₂ : ∀ k j, w₂ k j = w₂' k j) (hb₂ : ∀ j, b₂ j = b₂' j)
    (hw₃ : ∀ k j, w₃ k j = w₃' k j) (hb₃ : ∀ j, b₃ j = b₃' j) (hx : ∀ k, x k = x' k) :
    deep w₁ b₁ w₂ b₂ w₃ b₃ x = deep w₁' b₁' w₂' b₂' w₃' b₃' x' := by
  obtain rfl : w₁ = w₁' := funext fun k => funext (hw₁ k)
  obtain rfl : w₂ = w₂' := funext fun k => funext (hw₂ k)
  obtain rfl : w₃ = w₃' := funext fun k => funext (hw₃ k)
  rw [show b₁ = b₁' from funext hb₁, show b₂ = b₂' from funext hb₂, show b₃ = b₃' from funext hb₃, show x = x' from funext hx]

end Cert.Net

end
-- ==== Proof.KernelIdealPay.lean ====
/- The kernel body's payloads read at an index, at the ideal values. -/
module

public import proofs.«01_k».proof.Proof.KernelIdealBody
public import proofs.«01_k».proof.Proof.Net

@[expose] public section

noncomputable section

namespace Cert.KernelIdeal.Hand

open Cert.KernelIdeal Cert.KernelIdeal.Gen Cert.Net
open Idealize.ShloMosaic
open scoped BigOperators

/-- The heads' row `r` at the block's point `n`: that head output of the perceptron of row `n` of the features. -/
theorem pay6_apply (x1 : Vec Ideal S12800x256 .f32) (x2 : Vec Ideal S256x256 .f32) (x3 : Vec Ideal S1x256 .f32)
    (x4 : Vec Ideal S256x256 .f32) (x5 : Vec Ideal S1x256 .f32) (x6 : Vec Ideal S256x256 .f32) (x7 : Vec Ideal S1x256 .f32)
    (x8 : Vec Ideal S256x10 .f32) (x9 : Vec Ideal S10x1 .f32) (r : Fin 10) (n : Fin 12800) :
    k0_pay6 x1 x2 x3 x4 x5 x6 x7 x8 x9 (ix2 r n)
      = head (fun k => x8 (ix2 k r)) (x9 (ix2 r 0))
          (deep (fun k j => x2 (ix2 k j)) (fun j => x3 (ix2 0 j)) (fun k j => x4 (ix2 k j)) (fun j => x5 (ix2 0 j))
            (fun k j => x6 (ix2 k j)) (fun j => x7 (ix2 0 j)) (fun k => x1 (ix2 n k))) := by
  pointwise [k0_pay6]
  exact congrArg (· + _) (Finset.sum_congr rfl fun k _ => mul_comm _ _)

/-- The masked heads: each row times the mask's row. -/
theorem pay1_apply (y : FVec Ideal S10x12800 .f32) (x0 : Vec Ideal S1x12800 .f32) (r : Fin 10) (n : Fin 12800) :
    k0_pay1 y x0 (ix2 r n) = y (ix2 r n) * x0 (ix2 0 n) := by
  pointwise [k0_pay1]

/-- The first result's block: rows 0 to 2 of the masked heads. -/
theorem pay2_apply (y : FVec Ideal S10x12800 .f32) (x0 : Vec Ideal S1x12800 .f32) (r : Fin 3) (n : Fin 12800) :
    k0_pay2 y x0 (ix2 r n) = y (ix2 (⟨r.val, by omega⟩ : Fin 10) n) * x0 (ix2 0 n) := by
  rw [← pay1_apply]
  pointwise [k0_pay2]

/-- The second result's block: rows 3 to 5 of the masked heads. -/
theorem pay3_apply (y : FVec Ideal S10x12800 .f32) (x0 : Vec Ideal S1x12800 .f32) (r : Fin 3) (n : Fin 12800) :
    k0_pay3 y x0 (ix2 r n) = y (ix2 (⟨3 + r.val, by omega⟩ : Fin 10) n) * x0 (ix2 0 n) := by
  rw [← pay1_apply]
  pointwise [k0_pay3]

/-- The third result's block: rows 6 to 9 of the masked heads. -/
theorem pay4_apply (y : FVec Ideal S10x12800 .f32) (x0 : Vec Ideal S1x12800 .f32) (r : Fin 4) (n : Fin 12800) :
    k0_pay4 y x0 (ix2 r n) = y (ix2 (⟨6 + r.val, by omega⟩ : Fin 10) n) * x0 (ix2 0 n) := by
  rw [← pay1_apply]
  pointwise [k0_pay4]

/-- The fourth result's block is zero. -/
theorem pay5_apply (j : S3x16x12800.Idx) : k0_pay5 (F := Ideal) j = 0 := by
  pointwise [k0_pay5]

end Cert.KernelIdeal.Hand

end
-- ==== Proof.KernelIdealBlocks.lean ====
/- What the staging buffers of the program `KernelIdeal` hold, at coordinates of the arrays behind them. -/
module

public import proofs.«01_k».proof.Proof.KernelIdealBody
public import proofs.«01_k».proof.Proof.KernelIdealPay

@[expose] public section

noncomputable section

namespace Cert.KernelIdeal.Hand

open Cert.KernelIdeal Cert.KernelIdeal.Gen Cert.Net
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The mask's window moves one row. -/
theorem xsize0_0 : ∀ t : Fin cfg0.N, win0_0.xsize (grid0.coords t) 0 = 1 := by decide +kernel
/-- The mask's window moves the columns inside the array. -/
theorem xsize0_1 : ∀ t : Fin cfg0.N, win0_0.xsize (grid0.coords t) 1 = min 12800 (100000 - 12800 * t.val) := by decide +kernel
/-- The features' window moves the rows inside the array. -/
theorem xsize1_0 : ∀ t : Fin cfg0.N, win0_1.xsize (grid0.coords t) 0 = min 12800 (100000 - 12800 * t.val) := by decide +kernel
/-- The features' window moves every column. -/
theorem xsize1_1 : ∀ t : Fin cfg0.N, win0_1.xsize (grid0.coords t) 1 = 256 := by decide +kernel

/-- Where the features' block at point `t` starts. -/
theorem index1 : ∀ t : Fin cfg0.N, win0_1.index t 0 = t.val ∧ win0_1.index t 1 = 0 := by decide +kernel
/-- Where the mask's block at point `t` starts. -/
theorem index0 : ∀ t : Fin cfg0.N, win0_0.index t 0 = 0 ∧ win0_0.index t 1 = t.val := by decide +kernel

/-- Row `n` of the features' buffer at point `t` is row `12800 t + n` of the features, when that is inside them. -/
theorem fill_features (c : Dev nD) (t : Fin cfg0.N) (d : S12800x256.Idx → Elt Ideal .f32) (n : Fin 12800) (k : Fin 256)
    (h : 12800 * t.val + n.val < 100000) :
    win0_1.fill (grid0.coords t) d (iblk m c 1 t) (ix2 n k) = V m c main_arg3 (ix2 ⟨12800 * t.val + n.val, h⟩ k) := by
  have hm : win0_1.moved (grid0.coords t) (ix2 n k) = true := by
    rw [win0_1.moved_iff]
    intro a
    match a with
    | ⟨0, _⟩ =>
      show n.val < win0_1.xsize (grid0.coords t) 0
      rw [xsize1_0]; have := n.isLt; omega
    | ⟨1, _⟩ =>
      show k.val < win0_1.xsize (grid0.coords t) 1
      rw [xsize1_1]; exact k.isLt
  unfold Window.fill
  rw [dif_pos hm]
  unfold iblk
  rw [View.read]
  refine congrArg (V m c main_arg3) (funext fun a => Fin.ext ?_)
  match a with
  | ⟨0, _⟩ => blk_simp; rw [(index1 t).1]; show t.val * 12800 + n.val = 12800 * t.val + n.val; omega
  | ⟨1, _⟩ => blk_simp; rw [(index1 t).2]; show 0 * 256 + k.val = k.val; omega

/-- Column `n` of the mask's buffer at point `t` is column `12800 t + n` of the mask, when that is inside it. -/
theorem fill_mask (c : Dev nD) (t : Fin cfg0.N) (d : S1x12800.Idx → Elt Ideal .f32) (n : Fin 12800)
    (h : 12800 * t.val + n.val < 100000) :
    win0_0.fill (grid0.coords t) d (iblk m c 0 t) (ix2 0 n) = V m c main_v1 (ix2 0 ⟨12800 * t.val + n.val, h⟩) := by
  have hm : win0_0.moved (grid0.coords t) (ix2 0 n) = true := by
    rw [win0_0.moved_iff]
    intro a
    match a with
    | ⟨0, _⟩ =>
      show 0 < win0_0.xsize (grid0.coords t) 0
      rw [xsize0_0]; exact Nat.one_pos
    | ⟨1, _⟩ =>
      show n.val < win0_0.xsize (grid0.coords t) 1
      rw [xsize0_1]; have := n.isLt; omega
  unfold Window.fill
  rw [dif_pos hm]
  unfold iblk
  rw [View.read]
  refine congrArg (V m c main_v1) (funext fun a => Fin.ext ?_)
  match a with
  | ⟨0, _⟩ => blk_simp; rw [(index0 t).1]; rfl
  | ⟨1, _⟩ => blk_simp; rw [(index0 t).2]; show t.val * 12800 + n.val = 12800 * t.val + n.val; omega

/-- Window 2's block is its whole array, at every point. -/
theorem block_2 (c : Dev nD) (t : Fin cfg0.N) (x : Fin 256) (y : Fin 256) :
    iblk m c 2 t (ix2 x y) = V m c main_arg4 (ix2 x y) := by
  unfold iblk
  rw [View.read]
  refine congrArg (V m c main_arg4) (funext fun a => Fin.ext ?_)
  match a with
  | ⟨0, _⟩ => blk_simp; show 0 * 256 + x.val = x.val; omega
  | ⟨1, _⟩ => blk_simp; show 0 * 256 + y.val = y.val; omega

/-- Window 3's block is its whole array, at every point. -/
theorem block_3 (c : Dev nD) (t : Fin cfg0.N) (x : Fin 1) (y : Fin 256) :
    iblk m c 3 t (ix2 x y) = V m c main_v8 (ix2 x y) := by
  unfold iblk
  rw [View.read]
  refine congrArg (V m c main_v8) (funext fun a => Fin.ext ?_)
  match a with
  | ⟨0, _⟩ => blk_simp; rfl
  | ⟨1, _⟩ => blk_simp; show 0 * 256 + y.val = y.val; omega

/-- Window 4's block is its whole array, at every point. -/
theorem block_4 (c : Dev nD) (t : Fin cfg0.N) (x : Fin 256) (y : Fin 256) :
    iblk m c 4 t (ix2 x y) = V m c main_arg6 (ix2 x y) := by
  unfold iblk
  rw [View.read]
  refine congrArg (V m c main_arg6) (funext fun a => Fin.ext ?_)
  match a with
  | ⟨0, _⟩ => blk_simp; show 0 * 256 + x.val = x.val; omega
  | ⟨1, _⟩ => blk_simp; show 0 * 256 + y.val = y.val; omega

/-- Window 5's block is its whole array, at every point. -/
theorem block_5 (c : Dev nD) (t : Fin cfg0.N) (x : Fin 1) (y : Fin 256) :
    iblk m c 5 t (ix2 x y) = V m c main_v9 (ix2 x y) := by
  unfold iblk
  rw [View.read]
  refine congrArg (V m c main_v9) (funext fun a => Fin.ext ?_)
  match a with
  | ⟨0, _⟩ => blk_simp; rfl
  | ⟨1, _⟩ => blk_simp; show 0 * 256 + y.val = y.val; omega

/-- Window 6's block is its whole array, at every point. -/
theorem block_6 (c : Dev nD) (t : Fin cfg0.N) (x : Fin 256) (y : Fin 256) :
    iblk m c 6 t (ix2 x y) = V m c main_arg8 (ix2 x y) := by
  unfold iblk
  rw [View.read]
  refine congrArg (V m c main_arg8) (funext fun a => Fin.ext ?_)
  match a with
  | ⟨0, _⟩ => blk_simp; show 0 * 256 + x.val = x.val; omega
  | ⟨1, _⟩ => blk_simp; show 0 * 256 + y.val = y.val; omega

/-- Window 7's block is its whole array, at every point. -/
theorem block_7 (c : Dev nD) (t : Fin cfg0.N) (x : Fin 1) (y : Fin 256) :
    iblk m c 7 t (ix2 x y) = V m c main_v10 (ix2 x y) := by
  unfold iblk
  rw [View.read]
  refine congrArg (V m c main_v10) (funext fun a => Fin.ext ?_)
  match a with
  | ⟨0, _⟩ => blk_simp; rfl
  | ⟨1, _⟩ => blk_simp; show 0 * 256 + y.val = y.val; omega

/-- Window 8's block is its whole array, at every point. -/
theorem block_8 (c : Dev nD) (t : Fin cfg0.N) (x : Fin 256) (y : Fin 10) :
    iblk m c 8 t (ix2 x y) = V m c main_v2 (ix2 x y) := by
  unfold iblk
  rw [View.read]
  refine congrArg (V m c main_v2) (funext fun a => Fin.ext ?_)
  match a with
  | ⟨0, _⟩ => blk_simp; show 0 * 256 + x.val = x.val; omega
  | ⟨1, _⟩ => blk_simp; show 0 * 10 + y.val = y.val; omega

/-- Window 9's block is its whole array, at every point. -/
theorem block_9 (c : Dev nD) (t : Fin cfg0.N) (x : Fin 10) (y : Fin 1) :
    iblk m c 9 t (ix2 x y) = V m c main_v4 (ix2 x y) := by
  unfold iblk
  rw [View.read]
  refine congrArg (V m c main_v4) (funext fun a => Fin.ext ?_)
  match a with
  | ⟨0, _⟩ => blk_simp; show 0 * 10 + x.val = x.val; omega
  | ⟨1, _⟩ => blk_simp; rfl

/-- Masked head output `r` of point `n`, from the arrays at the region's entry. -/
def net (c : Dev nD) (r : Fin 10) (n : Fin 100000) : EReal :=
  head (fun k => V m c main_v2 (ix2 k r)) (V m c main_v4 (ix2 r 0))
    (deep (fun k j => V m c main_arg4 (ix2 k j)) (fun j => V m c main_v8 (ix2 0 j))
      (fun k j => V m c main_arg6 (ix2 k j)) (fun j => V m c main_v9 (ix2 0 j))
      (fun k j => V m c main_arg8 (ix2 k j)) (fun j => V m c main_v10 (ix2 0 j))
      (fun k => V m c main_arg3 (ix2 n k)))
    * V m c main_v1 (ix2 0 n)

/-- The heads of the block at point `t`, before the mask. -/
abbrev heads (c : Dev nD) (t : Fin cfg0.N) (d : S12800x256.Idx → Elt Ideal .f32) : FVec Ideal S10x12800 .f32 :=
  k0_pay6 (win0_1.fill (grid0.coords t) d (iblk m c 1 t)) (iblk m c 2 t) (iblk m c 3 t) (iblk m c 4 t) (iblk m c 5 t)
    (iblk m c 6 t) (iblk m c 7 t) (iblk m c 8 t) (iblk m c 9 t)
/-- The mask's buffer at point `t`. -/
abbrev maskRow (c : Dev nD) (t : Fin cfg0.N) (d : S1x12800.Idx → Elt Ideal .f32) : Vec Ideal S1x12800 .f32 :=
  win0_0.fill (grid0.coords t) d (iblk m c 0 t)

/-- At a column inside the arrays the block's masked heads are the arrays', whatever fills the buffers past the arrays' end. -/
theorem heads_masked (c : Dev nD) (t : Fin cfg0.N) (d0 : S1x12800.Idx → Elt Ideal .f32) (d1 : S12800x256.Idx → Elt Ideal .f32)
    (r : Fin 10) (n : Fin 12800) (h : 12800 * t.val + n.val < 100000) :
    heads m c t d1 (ix2 r n) * maskRow m c t d0 (ix2 0 n) = net m c r ⟨12800 * t.val + n.val, h⟩ := by
  unfold heads maskRow net
  rw [pay6_apply, fill_mask m c t d0 n h]
  simp only [fill_features m c t d1 n _ h, block_2, block_3, block_4, block_5, block_6, block_7, block_8, block_9]

/-- The array behind window 10 after the run: rows 0 to 2 of the masked heads. -/
def array10 (c : Dev nD) : S3x100000.Idx → EReal := fun i =>
  net m c ⟨(i 0).val, by have : (i 0).val < 3 := (i 0).isLt; omega⟩ (i 1)

/-- Window 10's transfers move every row and the columns inside the array. -/
theorem xsize10 : ∀ t : Fin cfg0.N, win0_10.xsize (grid0.coords t) 0 = 3 ∧ win0_10.xsize (grid0.coords t) 1 = min 12800 (100000 - 12800 * t.val) := by
  decide +kernel
/-- Where window 10's block at point `t` starts. -/
theorem index10 : ∀ t : Fin cfg0.N, win0_10.index t 0 = 0 ∧ win0_10.index t 1 = t.val := by decide +kernel

/-- The first result's payload at an index the write-back moves. -/
theorem payload10 (c : Dev nD) (t : Fin cfg0.N) (d0 : S1x12800.Idx → Elt Ideal .f32) (d1 : S12800x256.Idx → Elt Ideal .f32)
    (j : (win0_10.xblock (grid0.coords t)).Idx) :
    k0_pay2 (heads m c t d1) (maskRow m c t d0) (win0_10.xinj (grid0.coords t) j)
      = array10 m c ((win0_10.blk t).view.emb j) := by
  have h0 : (j 0).val < 3 := (xsize10 t).1 ▸ (j 0).isLt
  have h1 : (j 1).val < min 12800 (100000 - 12800 * t.val) := (xsize10 t).2 ▸ (j 1).isLt
  have hj : win0_10.xinj (grid0.coords t) j = ix2 (⟨(j 0).val, h0⟩ : Fin 3) (⟨(j 1).val, by omega⟩ : Fin 12800) := by
    funext a; match a with | ⟨0, _⟩ => rfl | ⟨1, _⟩ => rfl
  rw [hj, pay2_apply, heads_masked m c t d0 d1 _ _ (show 12800 * t.val + (j 1).val < 100000 by omega)]
  have e0 : ((win0_10.blk t).view.emb j 0).val = (j 0).val := by
    blk_simp; rw [(index10 t).1]; exact (congrArg (· + (j 0).val) (Nat.zero_mul _)).trans (Nat.zero_add _)
  have e1 : ((win0_10.blk t).view.emb j 1).val = 12800 * t.val + (j 1).val := by
    blk_simp; rw [(index10 t).2]; exact congrArg (· + (j 1).val) (Nat.mul_comm _ _)
  unfold array10
  congr 1
  · exact Fin.ext (by show (j 0).val = ((win0_10.blk t).view.emb j 0).val; rw [e0])
  · exact Fin.ext e1.symm

/-- The array behind window 11 after the run: rows 3 to 5 of the masked heads. -/
def array11 (c : Dev nD) : S3x100000.Idx → EReal := fun i =>
  net m c ⟨3 + (i 0).val, by have : (i 0).val < 3 := (i 0).isLt; omega⟩ (i 1)

/-- Window 11's transfers move every row and the columns inside the array. -/
theorem xsize11 : ∀ t : Fin cfg0.N, win0_11.xsize (grid0.coords t) 0 = 3 ∧ win0_11.xsize (grid0.coords t) 1 = min 12800 (100000 - 12800 * t.val) := by
  decide +kernel
/-- Where window 11's block at point `t` starts. -/
theorem index11 : ∀ t : Fin cfg0.N, win0_11.index t 0 = 0 ∧ win0_11.index t 1 = t.val := by decide +kernel

/-- The second result's payload at an index the write-back moves. -/
theorem payload11 (c : Dev nD) (t : Fin cfg0.N) (d0 : S1x12800.Idx → Elt Ideal .f32) (d1 : S12800x256.Idx → Elt Ideal .f32)
    (j : (win0_11.xblock (grid0.coords t)).Idx) :
    k0_pay3 (heads m c t d1) (maskRow m c t d0) (win0_11.xinj (grid0.coords t) j)
      = array11 m c ((win0_11.blk t).view.emb j) := by
  have h0 : (j 0).val < 3 := (xsize11 t).1 ▸ (j 0).isLt
  have h1 : (j 1).val < min 12800 (100000 - 12800 * t.val) := (xsize11 t).2 ▸ (j 1).isLt
  have hj : win0_11.xinj (grid0.coords t) j = ix2 (⟨(j 0).val, h0⟩ : Fin 3) (⟨(j 1).val, by omega⟩ : Fin 12800) := by
    funext a; match a with | ⟨0, _⟩ => rfl | ⟨1, _⟩ => rfl
  rw [hj, pay3_apply, heads_masked m c t d0 d1 _ _ (show 12800 * t.val + (j 1).val < 100000 by omega)]
  have e0 : ((win0_11.blk t).view.emb j 0).val = (j 0).val := by
    blk_simp; rw [(index11 t).1]; exact (congrArg (· + (j 0).val) (Nat.zero_mul _)).trans (Nat.zero_add _)
  have e1 : ((win0_11.blk t).view.emb j 1).val = 12800 * t.val + (j 1).val := by
    blk_simp; rw [(index11 t).2]; exact congrArg (· + (j 1).val) (Nat.mul_comm _ _)
  unfold array11
  congr 1
  · exact Fin.ext (by show 3 + (j 0).val = 3 + ((win0_11.blk t).view.emb j 0).val; rw [e0])
  · exact Fin.ext e1.symm

/-- The array behind window 12 after the run: rows 6 to 9 of the masked heads. -/
def array12 (c : Dev nD) : S4x100000.Idx → EReal := fun i =>
  net m c ⟨6 + (i 0).val, by have : (i 0).val < 4 := (i 0).isLt; omega⟩ (i 1)

/-- Window 12's transfers move every row and the columns inside the array. -/
theorem xsize12 : ∀ t : Fin cfg0.N, win0_12.xsize (grid0.coords t) 0 = 4 ∧ win0_12.xsize (grid0.coords t) 1 = min 12800 (100000 - 12800 * t.val) := by
  decide +kernel
/-- Where window 12's block at point `t` starts. -/
theorem index12 : ∀ t : Fin cfg0.N, win0_12.index t 0 = 0 ∧ win0_12.index t 1 = t.val := by decide +kernel

/-- The third result's payload at an index the write-back moves. -/
theorem payload12 (c : Dev nD) (t : Fin cfg0.N) (d0 : S1x12800.Idx → Elt Ideal .f32) (d1 : S12800x256.Idx → Elt Ideal .f32)
    (j : (win0_12.xblock (grid0.coords t)).Idx) :
    k0_pay4 (heads m c t d1) (maskRow m c t d0) (win0_12.xinj (grid0.coords t) j)
      = array12 m c ((win0_12.blk t).view.emb j) := by
  have h0 : (j 0).val < 4 := (xsize12 t).1 ▸ (j 0).isLt
  have h1 : (j 1).val < min 12800 (100000 - 12800 * t.val) := (xsize12 t).2 ▸ (j 1).isLt
  have hj : win0_12.xinj (grid0.coords t) j = ix2 (⟨(j 0).val, h0⟩ : Fin 4) (⟨(j 1).val, by omega⟩ : Fin 12800) := by
    funext a; match a with | ⟨0, _⟩ => rfl | ⟨1, _⟩ => rfl
  rw [hj, pay4_apply, heads_masked m c t d0 d1 _ _ (show 12800 * t.val + (j 1).val < 100000 by omega)]
  have e0 : ((win0_12.blk t).view.emb j 0).val = (j 0).val := by
    blk_simp; rw [(index12 t).1]; exact (congrArg (· + (j 0).val) (Nat.zero_mul _)).trans (Nat.zero_add _)
  have e1 : ((win0_12.blk t).view.emb j 1).val = 12800 * t.val + (j 1).val := by
    blk_simp; rw [(index12 t).2]; exact congrArg (· + (j 1).val) (Nat.mul_comm _ _)
  unfold array12
  congr 1
  · exact Fin.ext (by show 6 + (j 0).val = 6 + ((win0_12.blk t).view.emb j 0).val; rw [e0])
  · exact Fin.ext e1.symm

end Cert.KernelIdeal.Hand

end
-- ==== Proof.KernelIdealRun.lean ====
/- The run of @main of the program `KernelIdeal` at the ideal values, the contents of the results' arrays stated. -/
module

public import proofs.«01_k».proof.Proof.KernelIdealBlocks

@[expose] public section

noncomputable section

namespace Cert.KernelIdeal.Hand

open Cert.KernelIdeal Cert.KernelIdeal.Gen Cert.Net
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What stands in a buffer past the array's end: any words; these are the zero word. -/
abbrev pad0 : S1x12800.Idx → Elt Ideal .f32 := fun _ => (0 : EReal)
/-- The same for the features' buffer. -/
abbrev pad1 : S12800x256.Idx → Elt Ideal .f32 := fun _ => (0 : EReal)

/-- The proof data: the arrays at their contents at the region's entry; after the body each input's buffer holds its block
    and each result's its payload of the blocks, every overhanging block filled out with the zero word. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) pad0 (iblk m c 0 t)
    | ⟨1, _⟩ => win0_1.fill (grid0.coords t) pad1 (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay2 (heads m c t pad1) (maskRow m c t pad0)
    | ⟨11, _⟩ => k0_pay3 (heads m c t pad1) (maskRow m c t pad0)
    | ⟨12, _⟩ => k0_pay4 (heads m c t pad1) (maskRow m c t pad0)
    | ⟨13, _⟩ => k0_pay5 (F := Ideal)
  Φ _ := Pipeline.ΦA spec0 c
  q _ := fullShare
  owed _ := 0

/-- The pipeline's call of the body at point `t` is the body on that point's staging buffers. -/
theorem body_row (t : Fin cfg0.N) :
    (defs₀ (F := Ideal)) .tc cfg0.body (cfg0.bodyArgs t (cfg0.slots t)) = bodyAt0 t := by
  unfold defs₀; rw [Defs.onTc_tc]

/-- A window whose block overhangs its array arrives holding its block, filled out with anything. -/
theorem before_0 (c : Dev nD) (t : Fin cfg0.N) (d) :
    (dats m 0 c).before (0 : Fin 14) t d = win0_0.fill (grid0.coords t) d (iblk m c 0 t) := by
  unfold Dat.before; rw [if_pos (fetch0_0 t)]; rfl
/-- The features' window likewise. -/
theorem before_1 (c : Dev nD) (t : Fin cfg0.N) (d) :
    (dats m 0 c).before (1 : Fin 14) t d = win0_1.fill (grid0.coords t) d (iblk m c 1 t) := by
  unfold Dat.before; rw [if_pos (fetch0_1 t)]; rfl

/-- On the part window 10's write-back moves, the payload does not depend on what fills the buffers past the arrays' end. -/
theorem cut_10 (c : Dev nD) (t : Fin cfg0.N) (d0 : S1x12800.Idx → Elt Ideal .f32) (d1 : S12800x256.Idx → Elt Ideal .f32) :
    win0_10.cut (grid0.coords t) ((dats m 0 c).after (10 : Fin 14) t)
      = win0_10.cut (grid0.coords t) (k0_pay2 (heads m c t d1) (maskRow m c t d0)) :=
  funext fun j => (payload10 m c t pad0 pad1 j).trans (payload10 m c t d0 d1 j).symm
/-- On the part window 11's write-back moves, the payload does not depend on what fills the buffers past the arrays' end. -/
theorem cut_11 (c : Dev nD) (t : Fin cfg0.N) (d0 : S1x12800.Idx → Elt Ideal .f32) (d1 : S12800x256.Idx → Elt Ideal .f32) :
    win0_11.cut (grid0.coords t) ((dats m 0 c).after (11 : Fin 14) t)
      = win0_11.cut (grid0.coords t) (k0_pay3 (heads m c t d1) (maskRow m c t d0)) :=
  funext fun j => (payload11 m c t pad0 pad1 j).trans (payload11 m c t d0 d1 j).symm
/-- On the part window 12's write-back moves, the payload does not depend on what fills the buffers past the arrays' end. -/
theorem cut_12 (c : Dev nD) (t : Fin cfg0.N) (d0 : S1x12800.Idx → Elt Ideal .f32) (d1 : S12800x256.Idx → Elt Ideal .f32) :
    win0_12.cut (grid0.coords t) ((dats m 0 c).after (12 : Fin 14) t)
      = win0_12.cut (grid0.coords t) (k0_pay4 (heads m c t d1) (maskRow m c t d0)) :=
  funext fun j => (payload12 m c t pad0 pad1 j).trans (payload12 m c t d0 d1 j).symm

/-- What the body is run from at point `t`. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before (0 : Fin 14) t d))
    ∗ (∃ d, owns (c : Thread nD τ) ((cfg0.win 1).stage (cfg0.slots t 1)) fullShare ((dats m 0 c).before (1 : Fin 14) t d))
    ∗ (∃ d, owns (c : Thread nD τ) ((cfg0.win 2).stage (cfg0.slots t 2)) fullShare ((dats m 0 c).before (2 : Fin 14) t d))
    ∗ (∃ d, owns (c : Thread nD τ) ((cfg0.win 3).stage (cfg0.slots t 3)) fullShare ((dats m 0 c).before (3 : Fin 14) t d))
    ∗ (∃ d, owns (c : Thread nD τ) ((cfg0.win 4).stage (cfg0.slots t 4)) fullShare ((dats m 0 c).before (4 : Fin 14) t d))
    ∗ (∃ d, owns (c : Thread nD τ) ((cfg0.win 5).stage (cfg0.slots t 5)) fullShare ((dats m 0 c).before (5 : Fin 14) t d))
    ∗ (∃ d, owns (c : Thread nD τ) ((cfg0.win 6).stage (cfg0.slots t 6)) fullShare ((dats m 0 c).before (6 : Fin 14) t d))
    ∗ (∃ d, owns (c : Thread nD τ) ((cfg0.win 7).stage (cfg0.slots t 7)) fullShare ((dats m 0 c).before (7 : Fin 14) t d))
    ∗ (∃ d, owns (c : Thread nD τ) ((cfg0.win 8).stage (cfg0.slots t 8)) fullShare ((dats m 0 c).before (8 : Fin 14) t d))
    ∗ (∃ d, owns (c : Thread nD τ) ((cfg0.win 9).stage (cfg0.slots t 9)) fullShare ((dats m 0 c).before (9 : Fin 14) t d))
    ∗ (∃ d, owns (c : Thread nD τ) ((cfg0.win 10).stage (cfg0.slots t 10)) fullShare ((dats m 0 c).before (10 : Fin 14) t d))
    ∗ (∃ d, owns (c : Thread nD τ) ((cfg0.win 11).stage (cfg0.slots t 11)) fullShare ((dats m 0 c).before (11 : Fin 14) t d))
    ∗ (∃ d, owns (c : Thread nD τ) ((cfg0.win 12).stage (cfg0.slots t 12)) fullShare ((dats m 0 c).before (12 : Fin 14) t d))
    ∗ (∃ d, owns (c : Thread nD τ) ((cfg0.win 13).stage (cfg0.slots t 13)) fullShare ((dats m 0 c).before (13 : Fin 14) t d)))

/-- What it ends with. -/
def bodyPost (c : Dev nD) (t : Fin cfg0.N) : sProp 𝕄 :=
  iprop((dats m 0 c).Φ t.succ ∗ (dats m 0 c).owesAt () t.succ
    ∗ (∃ d, owns (c : Thread nD τ) ((cfg0.win 0).stage (cfg0.slots t 0)) fullShare (win0_0.fill (grid0.coords t) d (win0_0.cut (grid0.coords t) ((dats m 0 c).after (0 : Fin 14) t))))
    ∗ (∃ d, owns (c : Thread nD τ) ((cfg0.win 1).stage (cfg0.slots t 1)) fullShare (win0_1.fill (grid0.coords t) d (win0_1.cut (grid0.coords t) ((dats m 0 c).after (1 : Fin 14) t))))
    ∗ owns (c : Thread nD τ) ((cfg0.win 2).stage (cfg0.slots t 2)) fullShare ((dats m 0 c).after (2 : Fin 14) t)
    ∗ owns (c : Thread nD τ) ((cfg0.win 3).stage (cfg0.slots t 3)) fullShare ((dats m 0 c).after (3 : Fin 14) t)
    ∗ owns (c : Thread nD τ) ((cfg0.win 4).stage (cfg0.slots t 4)) fullShare ((dats m 0 c).after (4 : Fin 14) t)
    ∗ owns (c : Thread nD τ) ((cfg0.win 5).stage (cfg0.slots t 5)) fullShare ((dats m 0 c).after (5 : Fin 14) t)
    ∗ owns (c : Thread nD τ) ((cfg0.win 6).stage (cfg0.slots t 6)) fullShare ((dats m 0 c).after (6 : Fin 14) t)
    ∗ owns (c : Thread nD τ) ((cfg0.win 7).stage (cfg0.slots t 7)) fullShare ((dats m 0 c).after (7 : Fin 14) t)
    ∗ owns (c : Thread nD τ) ((cfg0.win 8).stage (cfg0.slots t 8)) fullShare ((dats m 0 c).after (8 : Fin 14) t)
    ∗ owns (c : Thread nD τ) ((cfg0.win 9).stage (cfg0.slots t 9)) fullShare ((dats m 0 c).after (9 : Fin 14) t)
    ∗ (∃ d, owns (c : Thread nD τ) ((cfg0.win 10).stage (cfg0.slots t 10)) fullShare (win0_10.fill (grid0.coords t) d (win0_10.cut (grid0.coords t) ((dats m 0 c).after (10 : Fin 14) t))))
    ∗ (∃ d, owns (c : Thread nD τ) ((cfg0.win 11).stage (cfg0.slots t 11)) fullShare (win0_11.fill (grid0.coords t) d (win0_11.cut (grid0.coords t) ((dats m 0 c).after (11 : Fin 14) t))))
    ∗ (∃ d, owns (c : Thread nD τ) ((cfg0.win 12).stage (cfg0.slots t 12)) fullShare (win0_12.fill (grid0.coords t) d (win0_12.cut (grid0.coords t) ((dats m 0 c).after (12 : Fin 14) t))))
    ∗ (∃ d, owns (c : Thread nD τ) ((cfg0.win 13).stage (cfg0.slots t 13)) fullShare (win0_13.fill (grid0.coords t) d (win0_13.cut (grid0.coords t) ((dats m 0 c).after (13 : Fin 14) t)))))

set_option maxHeartbeats 1000000 in
/-- The body at point `t`, on that point's staging buffers. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_0 m c t d0, before_1 m c t d1,
    before0_2_of m (dats m 0 c) rfl (fun _ => rfl) t d2,
    before0_3_of m (dats m 0 c) rfl (fun _ => rfl) t d3,
    before0_4_of m (dats m 0 c) rfl (fun _ => rfl) t d4,
    before0_5_of m (dats m 0 c) rfl (fun _ => rfl) t d5,
    before0_6_of m (dats m 0 c) rfl (fun _ => rfl) t d6,
    before0_7_of m (dats m 0 c) rfl (fun _ => rfl) t d7,
    before0_8_of m (dats m 0 c) rfl (fun _ => rfl) t d8,
    before0_9_of m (dats m 0 c) rfl (fun _ => rfl) t d9]
  iapply (sound_kernel c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13))
    (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]
  · iexists d0
    rw [show win0_0.cut (grid0.coords t) ((dats m 0 c).after (0 : Fin 14) t) = iblk m c 0 t from win0_0.cut_fill _ _ _]
    iexact H0
  isplitl [H1]
  · iexists d1
    rw [show win0_1.cut (grid0.coords t) ((dats m 0 c).after (1 : Fin 14) t) = iblk m c 1 t from win0_1.cut_fill _ _ _]
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists (k0_pay2 (heads m c t d1) (maskRow m c t d0))
    rw [cut_10 m c t d0 d1, win0_10.fill_cut]
    iexact H10
  isplitl [H11]
  · iexists (k0_pay3 (heads m c t d1) (maskRow m c t d0))
    rw [cut_11 m c t d0 d1, win0_11.fill_cut]
    iexact H11
  isplitl [H12]
  · iexists (k0_pay4 (heads m c t d1) (maskRow m c t d0))
    rw [cut_12 m c t d0 d1, win0_12.fill_cut]
    iexact H12
  iexists (k0_pay5 (F := Ideal))
  rw [show win0_13.cut (grid0.coords t) ((dats m 0 c).after (13 : Fin 14) t) = win0_13.cut (grid0.coords t) (k0_pay5 (F := Ideal)) from rfl,
    win0_13.fill_cut]
  iexact H13

/-- The pipeline's obligation of the body. -/
theorem body_obligation (c : Dev nD) :
    BodyObligationLoose (dats m 0 c) (defs₀ (F := Ideal)) Variants.none () Set.univ := fun t => by
  rw [bigSep_W0, bigSep_W0, body_row]
  exact triple_restated (sound_body m c t) rfl .rfl fun _ => .rfl

/-- The array behind window 10 after the run. -/
theorem arrAt_10 (c : Dev nD) : (dats m 0 c).arrAt (10 : Fin 14) cfg0.N = array10 m c :=
  (dats m 0 c).arrAt_eq_of_covers (10 : Fin 14) _ (by decide +kernel) fun t _ y => payload10 m c t pad0 pad1 y
/-- The array behind window 11 after the run. -/
theorem arrAt_11 (c : Dev nD) : (dats m 0 c).arrAt (11 : Fin 14) cfg0.N = array11 m c :=
  (dats m 0 c).arrAt_eq_of_covers (11 : Fin 14) _ (by decide +kernel) fun t _ y => payload11 m c t pad0 pad1 y
/-- The array behind window 12 after the run. -/
theorem arrAt_12 (c : Dev nD) : (dats m 0 c).arrAt (12 : Fin 14) cfg0.N = array12 m c :=
  (dats m 0 c).arrAt_eq_of_covers (12 : Fin 14) _ (by decide +kernel) fun t _ y => payload12 m c t pad0 pad1 y
/-- The array behind window 13 after the run is zero. -/
theorem arrAt_13 (c : Dev nD) : (dats m 0 c).arrAt (13 : Fin 14) cfg0.N = fun _ => (0 : EReal) :=
  (dats m 0 c).arrAt_eq_of_covers (13 : Fin 14) _ (by decide +kernel) fun t _ y => pay5_apply (win0_13.xinj (grid0.coords t) y)

set_option backward.isDefEq.respectTransparency.types false in
/-- From any memory with zero counters, every weakly fair execution of @main terminates, the arrays at their computed
    contents, every other buffer as the lines around the region leave it and every semaphore counter at zero. -/
theorem run_exact :
    θ_run defs (onTc (τ := τ) (main (F := Ideal))) ⟨m, fun _ => 0, ρ⟩ (fun r =>
      Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)
    (Q' := _) (hQ' := fun r h => h)

end Cert.KernelIdeal.Hand

end
-- ==== Proof.KernelIdealHost.lean ====
/- The lines of the program `KernelIdeal` before and after its region, read at an index, at the ideal values: each result as
   masked heads of the perceptron of the arguments. -/
module

public import proofs.«01_k».proof.Proof.KernelIdealRun
public import Idealize.ShloMosaic.Lib.StableHlo.ReadAt

@[expose] public section

noncomputable section

namespace Cert.KernelIdeal.Hand

open Cert.KernelIdeal Cert.KernelIdeal.Gen Cert.Net
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The first layer's bias as the region finds it. -/
theorem V_v8 (c : Dev nD) (j : Fin 256) : V m c main_v8 (ix2 0 j) = m ((c : Thread nD τ).loc main_arg5) (ix1 j) := by
  unfold V V0
  simp only [List.flatten_cons, List.flatten_nil, List.append_nil, hostOps0]
  after_reads_at

/-- The second layer's bias as the region finds it. -/
theorem V_v9 (c : Dev nD) (j : Fin 256) : V m c main_v9 (ix2 0 j) = m ((c : Thread nD τ).loc main_arg7) (ix1 j) := by
  unfold V V0
  simp only [List.flatten_cons, List.flatten_nil, List.append_nil, hostOps0]
  after_reads_at

/-- The third layer's bias as the region finds it. -/
theorem V_v10 (c : Dev nD) (j : Fin 256) : V m c main_v10 (ix2 0 j) = m ((c : Thread nD τ).loc main_arg9) (ix1 j) := by
  unfold V V0
  simp only [List.flatten_cons, List.flatten_nil, List.append_nil, hostOps0]
  after_reads_at

/-- The mask as the region finds it: each bit as a number. -/
theorem V_v1 (c : Dev nD) (n : Fin 100000) :
    V m c main_v1 (ix2 0 n) = FloatOps.uitofp (F := Ideal) .f32 (m ((c : Thread nD τ).loc main_arg0) (ix1 n)) := by
  unfold V V0
  simp only [List.flatten_cons, List.flatten_nil, List.append_nil, hostOps0]
  after_reads_at

/-- The warp head's columns of the heads' matrix as the region finds it. -/
theorem V_v2_warp (c : Dev nD) (k : Fin 256) (r : Fin 3) :
    V m c main_v2 (ix2 k (⟨r.val, by omega⟩ : Fin 10)) = m ((c : Thread nD τ).loc main_arg10) (ix2 k r) := by
  unfold V V0
  simp only [List.flatten_cons, List.flatten_nil, List.append_nil, hostOps0]
  after_reads_at

/-- The warp head's entries of the heads' bias as the region finds it. -/
theorem V_v4_warp (c : Dev nD) (r : Fin 3) :
    V m c main_v4 (ix2 (⟨r.val, by omega⟩ : Fin 10) 0) = m ((c : Thread nD τ).loc main_arg11) (ix1 r) := by
  unfold V V0
  simp only [List.flatten_cons, List.flatten_nil, List.append_nil, hostOps0]
  after_reads_at
  after_reads_simp

/-- The scaling head's columns of the heads' matrix as the region finds it. -/
theorem V_v2_scaling (c : Dev nD) (k : Fin 256) (r : Fin 3) :
    V m c main_v2 (ix2 k (⟨3 + r.val, by omega⟩ : Fin 10)) = m ((c : Thread nD τ).loc main_arg12) (ix2 k r) := by
  unfold V V0
  simp only [List.flatten_cons, List.flatten_nil, List.append_nil, hostOps0]
  after_reads_at

/-- The scaling head's entries of the heads' bias as the region finds it. -/
theorem V_v4_scaling (c : Dev nD) (r : Fin 3) :
    V m c main_v4 (ix2 (⟨3 + r.val, by omega⟩ : Fin 10) 0) = m ((c : Thread nD τ).loc main_arg13) (ix1 r) := by
  unfold V V0
  simp only [List.flatten_cons, List.flatten_nil, List.append_nil, hostOps0]
  after_reads_at
  after_reads_simp

/-- The rotation head's columns of the heads' matrix as the region finds it. -/
theorem V_v2_rotation (c : Dev nD) (k : Fin 256) (r : Fin 4) :
    V m c main_v2 (ix2 k (⟨6 + r.val, by omega⟩ : Fin 10)) = m ((c : Thread nD τ).loc main_arg14) (ix2 k r) := by
  unfold V V0
  simp only [List.flatten_cons, List.flatten_nil, List.append_nil, hostOps0]
  after_reads_at
  rw [dif_neg (by omega), dif_neg (by omega)]
  exact congrArg _ (congrArg _ (Fin.ext (by show 6 + r.val - 3 - 3 = r.val; omega)))

/-- The rotation head's entries of the heads' bias as the region finds it. -/
theorem V_v4_rotation (c : Dev nD) (r : Fin 4) :
    V m c main_v4 (ix2 (⟨6 + r.val, by omega⟩ : Fin 10) 0) = m ((c : Thread nD τ).loc main_arg15) (ix1 r) := by
  unfold V V0
  simp only [List.flatten_cons, List.flatten_nil, List.append_nil, hostOps0]
  after_reads_at
  rw [dif_neg (by omega), dif_neg (by omega)]
  after_reads_simp
  exact congrArg _ (congrArg _ (Fin.ext (by show 6 + r.val - 3 - 3 = r.val; omega)))

/-- A value times a mask bit as a number: the value where the bit is set, zero elsewhere. -/
theorem mul_bit (b : BitVec 1) (y : EReal) : y * FloatOps.uitofp (F := Ideal) .f32 b = keep b y := by
  unfold keep
  rcases (by decide : ∀ b : BitVec 1, b = 0#1 ∨ b = 1#1) b with rfl | rfl
  · rw [if_neg (by decide)]
    show y * (((0#1 : BitVec 1).toNat : ℝ) : EReal) = 0
    simp
  · rw [if_pos rfl]
    show y * (((1#1 : BitVec 1).toNat : ℝ) : EReal) = y
    simp

/-- The perceptron of point `n`'s features, from the arguments. -/
abbrev hidden (c : Dev nD) (n : Fin 100000) : Fin 256 → EReal :=
  deep (fun k j => m ((c : Thread nD τ).loc main_arg4) (ix2 k j)) (fun j => m ((c : Thread nD τ).loc main_arg5) (ix1 j))
    (fun k j => m ((c : Thread nD τ).loc main_arg6) (ix2 k j)) (fun j => m ((c : Thread nD τ).loc main_arg7) (ix1 j))
    (fun k j => m ((c : Thread nD τ).loc main_arg8) (ix2 k j)) (fun j => m ((c : Thread nD τ).loc main_arg9) (ix1 j))
    (fun k => m ((c : Thread nD τ).loc main_arg3) (ix2 n k))

/-- The masked warp head from the arguments. -/
theorem net_warp (c : Dev nD) (n : Fin 100000) (r : Fin 3) :
    net m c ⟨r.val, by omega⟩ n = keep (m ((c : Thread nD τ).loc main_arg0) (ix1 n))
      (head (fun k => m ((c : Thread nD τ).loc main_arg10) (ix2 k r)) (m ((c : Thread nD τ).loc main_arg11) (ix1 r)) (hidden m c n)) := by
  refine Eq.trans ?_ (mul_bit _ _)
  unfold net
  refine congrArg₂ (fun y z : EReal => y * z) (head_congr (fun k => V_v2_warp m c k r) (V_v4_warp m c r) (deep_congr
    (fun k j => congrFun (V_main_arg4 m c) (ix2 k j)) (V_v8 m c) (fun k j => congrFun (V_main_arg6 m c) (ix2 k j)) (V_v9 m c)
    (fun k j => congrFun (V_main_arg8 m c) (ix2 k j)) (V_v10 m c) (fun k => congrFun (V_main_arg3 m c) (ix2 n k)))) (V_v1 m c n)

/-- The masked scaling head from the arguments. -/
theorem net_scaling (c : Dev nD) (n : Fin 100000) (r : Fin 3) :
    net m c ⟨3 + r.val, by omega⟩ n = keep (m ((c : Thread nD τ).loc main_arg0) (ix1 n))
      (head (fun k => m ((c : Thread nD τ).loc main_arg12) (ix2 k r)) (m ((c : Thread nD τ).loc main_arg13) (ix1 r)) (hidden m c n)) := by
  refine Eq.trans ?_ (mul_bit _ _)
  unfold net
  refine congrArg₂ (fun y z : EReal => y * z) (head_congr (fun k => V_v2_scaling m c k r) (V_v4_scaling m c r) (deep_congr
    (fun k j => congrFun (V_main_arg4 m c) (ix2 k j)) (V_v8 m c) (fun k j => congrFun (V_main_arg6 m c) (ix2 k j)) (V_v9 m c)
    (fun k j => congrFun (V_main_arg8 m c) (ix2 k j)) (V_v10 m c) (fun k => congrFun (V_main_arg3 m c) (ix2 n k)))) (V_v1 m c n)

/-- The masked rotation head from the arguments. -/
theorem net_rotation (c : Dev nD) (n : Fin 100000) (r : Fin 4) :
    net m c ⟨6 + r.val, by omega⟩ n = keep (m ((c : Thread nD τ).loc main_arg0) (ix1 n))
      (head (fun k => m ((c : Thread nD τ).loc main_arg14) (ix2 k r)) (m ((c : Thread nD τ).loc main_arg15) (ix1 r)) (hidden m c n)) := by
  refine Eq.trans ?_ (mul_bit _ _)
  unfold net
  refine congrArg₂ (fun y z : EReal => y * z) (head_congr (fun k => V_v2_rotation m c k r) (V_v4_rotation m c r) (deep_congr
    (fun k j => congrFun (V_main_arg4 m c) (ix2 k j)) (V_v8 m c) (fun k j => congrFun (V_main_arg6 m c) (ix2 k j)) (V_v9 m c)
    (fun k j => congrFun (V_main_arg8 m c) (ix2 k j)) (V_v10 m c) (fun k => congrFun (V_main_arg3 m c) (ix2 n k)))) (V_v1 m c n)

/-- The warp result: the array behind window 10, transposed. -/
theorem tail_v12 (c : Dev nD) (n : Fin 100000) (r : Fin 3) :
    Pipeline.afterTail₀ cfgs (dats m) 0 (V0 m) [hostOps1] c main_v12 (ix2 n r)
      = keep (m ((c : Thread nD τ).loc main_arg0) (ix1 n))
          (head (fun k => m ((c : Thread nD τ).loc main_arg10) (ix2 k r)) (m ((c : Thread nD τ).loc main_arg11) (ix1 r)) (hidden m c n)) := by
  rw [← net_warp]
  unfold Pipeline.afterTail₀
  simp only [List.flatten_cons, List.flatten_nil, List.append_nil, hostOps1]
  after_reads_at
  have h := Pipeline.withArrays_arr spec0 launch0.win.arr_inj c (V0 m c) (fun w => (dats m 0 c).arrAt w cfg0.N) (10 : Fin 14)
  rw [arrAt_10] at h
  exact congrFun h (ix2 r n)

/-- The scaling result: the array behind window 11, transposed. -/
theorem tail_v13 (c : Dev nD) (n : Fin 100000) (r : Fin 3) :
    Pipeline.afterTail₀ cfgs (dats m) 0 (V0 m) [hostOps1] c main_v13 (ix2 n r)
      = keep (m ((c : Thread nD τ).loc main_arg0) (ix1 n))
          (head (fun k => m ((c : Thread nD τ).loc main_arg12) (ix2 k r)) (m ((c : Thread nD τ).loc main_arg13) (ix1 r)) (hidden m c n)) := by
  rw [← net_scaling]
  unfold Pipeline.afterTail₀
  simp only [List.flatten_cons, List.flatten_nil, List.append_nil, hostOps1]
  after_reads_at
  have h := Pipeline.withArrays_arr spec0 launch0.win.arr_inj c (V0 m c) (fun w => (dats m 0 c).arrAt w cfg0.N) (11 : Fin 14)
  rw [arrAt_11] at h
  exact congrFun h (ix2 r n)

/-- The rotation result: the array behind window 12, transposed. -/
theorem tail_v14 (c : Dev nD) (n : Fin 100000) (r : Fin 4) :
    Pipeline.afterTail₀ cfgs (dats m) 0 (V0 m) [hostOps1] c main_v14 (ix2 n r)
      = keep (m ((c : Thread nD τ).loc main_arg0) (ix1 n))
          (head (fun k => m ((c : Thread nD τ).loc main_arg14) (ix2 k r)) (m ((c : Thread nD τ).loc main_arg15) (ix1 r)) (hidden m c n)) := by
  rw [← net_rotation]
  unfold Pipeline.afterTail₀
  simp only [List.flatten_cons, List.flatten_nil, List.append_nil, hostOps1]
  after_reads_at
  have h := Pipeline.withArrays_arr spec0 launch0.win.arr_inj c (V0 m c) (fun w => (dats m 0 c).arrAt w cfg0.N) (12 : Fin 14)
  rw [arrAt_12] at h
  exact congrFun h (ix2 r n)

/-- The opacity result is zero. -/
theorem tail_v15 (c : Dev nD) (i : S100000x1.Idx) :
    Pipeline.afterTail₀ cfgs (dats m) 0 (V0 m) [hostOps1] c main_v15 i = (0 : EReal) := by
  unfold Pipeline.afterTail₀
  simp only [List.flatten_cons, List.flatten_nil, List.append_nil, hostOps1]
  after_reads_at

/-- The colour result is zero. -/
theorem tail_v16 (c : Dev nD) (i : S100000x16x3.Idx) :
    Pipeline.afterTail₀ cfgs (dats m) 0 (V0 m) [hostOps1] c main_v16 i = (0 : EReal) := by
  unfold Pipeline.afterTail₀
  simp only [List.flatten_cons, List.flatten_nil, List.append_nil, hostOps1]
  after_reads_at
  have h := Pipeline.withArrays_arr spec0 launch0.win.arr_inj c (V0 m c) (fun w => (dats m 0 c).arrAt w cfg0.N) (13 : Fin 14)
  rw [arrAt_13] at h
  exact congrFun h _

end Cert.KernelIdeal.Hand

end
-- ==== Proof.RefNet.lean ====
/- The reference's three masked head results read at an index, at the ideal values, and its run with them. -/
module

public import proofs.«01_k».proof.Proof.Gen.ReferenceIdeal.Run
public import proofs.«01_k».proof.Proof.Net

@[expose] public section

noncomputable section

namespace Cert.ReferenceIdeal.Hand

open Cert.ReferenceIdeal Cert.ReferenceIdeal.Gen Cert.Net
open Idealize.ShloMosaic
open scoped BigOperators

/-- A three-column masked head result as the reference composes it from the arguments. -/
def out3 (a0 : Vec Ideal S100000 .i1) (a3 : FVec Ideal S100000x256 .f32) (a4 : FVec Ideal S256x256 .f32) (a5 : FVec Ideal S256 .f32)
    (a6 : FVec Ideal S256x256 .f32) (a7 : FVec Ideal S256 .f32) (a8 : FVec Ideal S256x256 .f32) (a9 : FVec Ideal S256 .f32)
    (w : FVec Ideal S256x3 .f32) (b : FVec Ideal S3 .f32) : FVec Ideal S100000x3 .f32 :=
  select (broadcastInDim S100000x3 ![0, 1] bcast_S100000x1_S100000x3_0_1 (broadcastInDim S100000x1 ![0] bcast_S100000_S100000x1_0 a0)) (addf (Host.dotGeneral dot_S100000x256_S256x3_S100000x3_1_0_0_1_n_n none
      (maximumf (addf (Host.dotGeneral dot_S100000x256_S256x256_S100000x256_1_0_0_1_n_n none
      (maximumf (addf (Host.dotGeneral dot_S100000x256_S256x256_S100000x256_1_0_0_1_n_n none
      (maximumf (addf (Host.dotGeneral dot_S100000x256_S256x256_S100000x256_1_0_0_1_n_n none a3 a4) (broadcastInDim S100000x256 ![0, 1] bcast_S1x256_S100000x256_0_1 (broadcastInDim S1x256 ![1] bcast_S256_S1x256_1 a5))) (broadcastInDim S100000x256 ![] bcast_S_S100000x256 (constant (F := Ideal) S_ .f32 0x00000000#32))) a6) (broadcastInDim S100000x256 ![0, 1] bcast_S1x256_S100000x256_0_1 (broadcastInDim S1x256 ![1] bcast_S256_S1x256_1 a7))) (broadcastInDim S100000x256 ![] bcast_S_S100000x256 (constant (F := Ideal) S_ .f32 0x00000000#32))) a8) (broadcastInDim S100000x256 ![0, 1] bcast_S1x256_S100000x256_0_1 (broadcastInDim S1x256 ![1] bcast_S256_S1x256_1 a9))) (broadcastInDim S100000x256 ![] bcast_S_S100000x256 (constant (F := Ideal) S_ .f32 0x00000000#32))) w) (broadcastInDim S100000x3 ![0, 1] bcast_S1x3_S100000x3_0_1 (broadcastInDim S1x3 ![1] bcast_S3_S1x3_1 b))) (broadcastInDim S100000x3 ![] bcast_S_S100000x3 (constant (F := Ideal) S_ .f32 0x00000000#32))

/-- A four-column masked head result as the reference composes it from the arguments. -/
def out4 (a0 : Vec Ideal S100000 .i1) (a3 : FVec Ideal S100000x256 .f32) (a4 : FVec Ideal S256x256 .f32) (a5 : FVec Ideal S256 .f32)
    (a6 : FVec Ideal S256x256 .f32) (a7 : FVec Ideal S256 .f32) (a8 : FVec Ideal S256x256 .f32) (a9 : FVec Ideal S256 .f32)
    (w : FVec Ideal S256x4 .f32) (b : FVec Ideal S4 .f32) : FVec Ideal S100000x4 .f32 :=
  select (broadcastInDim S100000x4 ![0, 1] bcast_S100000x1_S100000x4_0_1 (broadcastInDim S100000x1 ![0] bcast_S100000_S100000x1_0 a0)) (addf (Host.dotGeneral dot_S100000x256_S256x4_S100000x4_1_0_0_1_n_n none
      (maximumf (addf (Host.dotGeneral dot_S100000x256_S256x256_S100000x256_1_0_0_1_n_n none
      (maximumf (addf (Host.dotGeneral dot_S100000x256_S256x256_S100000x256_1_0_0_1_n_n none
      (maximumf (addf (Host.dotGeneral dot_S100000x256_S256x256_S100000x256_1_0_0_1_n_n none a3 a4) (broadcastInDim S100000x256 ![0, 1] bcast_S1x256_S100000x256_0_1 (broadcastInDim S1x256 ![1] bcast_S256_S1x256_1 a5))) (broadcastInDim S100000x256 ![] bcast_S_S100000x256 (constant (F := Ideal) S_ .f32 0x00000000#32))) a6) (broadcastInDim S100000x256 ![0, 1] bcast_S1x256_S100000x256_0_1 (broadcastInDim S1x256 ![1] bcast_S256_S1x256_1 a7))) (broadcastInDim S100000x256 ![] bcast_S_S100000x256 (constant (F := Ideal) S_ .f32 0x00000000#32))) a8) (broadcastInDim S100000x256 ![0, 1] bcast_S1x256_S100000x256_0_1 (broadcastInDim S1x256 ![1] bcast_S256_S1x256_1 a9))) (broadcastInDim S100000x256 ![] bcast_S_S100000x256 (constant (F := Ideal) S_ .f32 0x00000000#32))) w) (broadcastInDim S100000x4 ![0, 1] bcast_S1x4_S100000x4_0_1 (broadcastInDim S1x4 ![1] bcast_S4_S1x4_1 b))) (broadcastInDim S100000x4 ![] bcast_S_S100000x4 (constant (F := Ideal) S_ .f32 0x00000000#32))

/-- Column `j` of point `n`: that head output of the perceptron of the point's features where its mask bit is set, zero elsewhere. -/
theorem out3_apply (a0 : Vec Ideal S100000 .i1) (a3 : FVec Ideal S100000x256 .f32) (a4 : FVec Ideal S256x256 .f32) (a5 : FVec Ideal S256 .f32)
    (a6 : FVec Ideal S256x256 .f32) (a7 : FVec Ideal S256 .f32) (a8 : FVec Ideal S256x256 .f32) (a9 : FVec Ideal S256 .f32)
    (w : FVec Ideal S256x3 .f32) (b : FVec Ideal S3 .f32) (n : Fin 100000) (j : Fin 3) :
    out3 a0 a3 a4 a5 a6 a7 a8 a9 w b (ix2 n j)
      = keep (a0 (ix1 n)) (head (fun k => w (ix2 k j)) (b (ix1 j))
          (deep (fun k j => a4 (ix2 k j)) (fun j => a5 (ix1 j)) (fun k j => a6 (ix2 k j)) (fun j => a7 (ix1 j))
            (fun k j => a8 (ix2 k j)) (fun j => a9 (ix1 j)) (fun k => a3 (ix2 n k)))) := by
  pointwise [out3]
  rfl

/-- Column `j` of point `n`: that head output of the perceptron of the point's features where its mask bit is set, zero elsewhere. -/
theorem out4_apply (a0 : Vec Ideal S100000 .i1) (a3 : FVec Ideal S100000x256 .f32) (a4 : FVec Ideal S256x256 .f32) (a5 : FVec Ideal S256 .f32)
    (a6 : FVec Ideal S256x256 .f32) (a7 : FVec Ideal S256 .f32) (a8 : FVec Ideal S256x256 .f32) (a9 : FVec Ideal S256 .f32)
    (w : FVec Ideal S256x4 .f32) (b : FVec Ideal S4 .f32) (n : Fin 100000) (j : Fin 4) :
    out4 a0 a3 a4 a5 a6 a7 a8 a9 w b (ix2 n j)
      = keep (a0 (ix1 n)) (head (fun k => w (ix2 k j)) (b (ix1 j))
          (deep (fun k j => a4 (ix2 k j)) (fun j => a5 (ix1 j)) (fun k j => a6 (ix2 k j)) (fun j => a7 (ix1 j))
            (fun k j => a8 (ix2 k j)) (fun j => a9 (ix1 j)) (fun k => a3 (ix2 n k)))) := by
  pointwise [out4]
  rfl

/-- The opacity result is zero. -/
theorem zeros1_apply (i : S100000x1.Idx) :
    broadcastInDim S100000x1 ![] bcast_S_S100000x1 (constant (F := Ideal) S_ .f32 0x00000000#32) i = (0 : EReal) := by
  pointwise

/-- The colour result is zero. -/
theorem zeros48_apply (i : S100000x16x3.Idx) :
    shapeCast S100000x16x3 (broadcastInDim S100000x48 ![] bcast_S_S100000x48 (constant (F := Ideal) S_ .f32 0x00000000#32))
      shapeCasts_S100000x48_S100000x16x3 i = (0 : EReal) := by
  unfold shapeCast
  pointwise

end Cert.ReferenceIdeal.Hand

end
-- ==== Proof.Tie.lean ====
/- The claims of the two idealized programs: the kernel's frame and results, the reference's, and their equality. -/
module

public import proofs.«01_k».proof.Proof.KernelIdealHost
public import proofs.«01_k».proof.Proof.RefNet
public import proofs.«01_k».proof.Defs
public import Idealize.ShloMosaic.Lib.Quiescent

@[expose] public section

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The post of the exact run. -/
abbrev Exact : PUnit × MemSt nD τ sig (Elt Ideal) → Prop :=
  Pipeline.FramePost cfgs (dats m) 0 (Pipeline.afterTail₀ cfgs (dats m) 0 (V0 m) [hostOps1])

/-- The exact run leaves every argument as it was. -/
theorem args_kept (r : PUnit × MemSt nD τ sig (Elt Ideal)) (h : Exact m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans (((dats m 0 c).arrAt_in 1 rfl _).trans (V_main_arg3 m c)),
    ((h c).1 2).trans (((dats m 0 c).arrAt_in 2 rfl _).trans (V_main_arg4 m c)),
    ((h c).2 main_arg5 (Pipeline.mem_restRefs_of main_arg5 (by decide) (by decide))).trans (W_main_arg5 m (dats m) c),
    ((h c).1 4).trans (((dats m 0 c).arrAt_in 4 rfl _).trans (V_main_arg6 m c)),
    ((h c).2 main_arg7 (Pipeline.mem_restRefs_of main_arg7 (by decide) (by decide))).trans (W_main_arg7 m (dats m) c),
    ((h c).1 6).trans (((dats m 0 c).arrAt_in 6 rfl _).trans (V_main_arg8 m c)),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c)⟩

/-- What the lines after the region leave in a buffer. -/
abbrev ends (c : Dev nD) (b : Ref sig .tc) : Buf (Elt Ideal) ((c : Thread nD τ).loc b) :=
  Pipeline.afterTail₀ cfgs (dats m) 0 (V0 m) [hostOps1] c b

/-- A result buffer ends as the lines after the region leave it. -/
theorem result_read (r : PUnit × MemSt nD τ sig (Elt Ideal)) (h : Exact m r) (c : Dev nD) (b : Ref sig .tc)
    (hb : b ∈ Pipeline.restRefs sig spec0) :
    r.2.mem ((c.tc : Thread nD τ).loc b) = ends m c b := (h c).2 b hb

/-- The kernel terminates with its arguments as they were and every counter at zero. -/
theorem quiet : Cert.quiescent_KernelIdeal := fun m g _ =>
  (θ_run _ _ _).mono (fun r h => ⟨args_kept m r h.1, h.2⟩) (run_exact m g)

end Cert.KernelIdeal.Hand

namespace Cert.ReferenceIdeal.Hand

open Cert.ReferenceIdeal Cert.ReferenceIdeal.Gen Cert.Net
open Idealize.ShloMosaic Idealize.SL.Sem

/-- The reference declares no semaphore, so its counters are zero at any state. -/
theorem counters (s : MemSt nD τ sig (Elt Ideal)) : s.sem = fun _ => 0 := sem_eq_zero_of_no_sems (by decide) s

/-- The reference terminates with its arguments as they were and every counter at zero. -/
theorem quiet : Cert.quiescent_ReferenceIdeal := fun m g _ =>
  (θ_run _ _ _).mono (fun r h => ⟨fun c => (h c).2.2.2.2.2, counters r.2⟩) (Cert.ReferenceIdeal.Value.run m g)

/-- The reference's run, its masked results named. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = out3 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v30) = out4 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15))
      ∧ r.2.mem ((c.tc : Thread nD τ).loc main_v25) = out3 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_v31) = (fun _ => (0 : EReal))
      ∧ r.2.mem ((c.tc : Thread nD τ).loc main_v33) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun r h c => ⟨(h c).1, (h c).2.1, (h c).2.2.1, (h c).2.2.2.1.trans (funext zeros1_apply),
    (h c).2.2.2.2.1.trans (funext zeros48_apply), (h c).2.2.2.2.2⟩) (Cert.ReferenceIdeal.Value.run m ρ)

end Cert.ReferenceIdeal.Hand

namespace Cert.Tie

open Cert.Net
open Idealize.ShloMosaic Idealize.ShloMosaic.TcCoe Idealize.SL.Sem

/-- Two arrays of two axes that agree at every pair of coordinates are equal. -/
theorem ext2 {α : Type} {a b : Nat} {f g : (⟨2, ![a, b]⟩ : Shape).Idx → α} (h : ∀ (x : Fin a) (y : Fin b), f (ix2 x y) = g (ix2 x y)) :
    f = g := by
  funext i
  have e : i = ix2 (i 0) (i 1) := by funext k; match k with | ⟨0, _⟩ => rfl | ⟨1, _⟩ => rfl
  rw [e]; exact h _ _

/-- The two programs end with equal results. -/
theorem equal_results : Cert.algebraic_KernelIdeal_ReferenceIdeal := by
  intro m g m' g' _ hm
  refine ⟨fun c => Cert.KernelIdeal.Hand.ends m c Cert.KernelIdeal.main_v12,
    fun c => Cert.KernelIdeal.Hand.ends m c Cert.KernelIdeal.main_v14,
    fun c => Cert.KernelIdeal.Hand.ends m c Cert.KernelIdeal.main_v13,
    fun c => Cert.KernelIdeal.Hand.ends m c Cert.KernelIdeal.main_v15,
    fun c => Cert.KernelIdeal.Hand.ends m c Cert.KernelIdeal.main_v16,
    (θ_run _ _ _).mono (fun r h c => ⟨Cert.KernelIdeal.Hand.result_read m r h.1 c Cert.KernelIdeal.main_v12 (Pipeline.mem_restRefs_of Cert.KernelIdeal.main_v12 (by decide) (by decide)),
      Cert.KernelIdeal.Hand.result_read m r h.1 c Cert.KernelIdeal.main_v14 (Pipeline.mem_restRefs_of Cert.KernelIdeal.main_v14 (by decide) (by decide)),
      Cert.KernelIdeal.Hand.result_read m r h.1 c Cert.KernelIdeal.main_v13 (Pipeline.mem_restRefs_of Cert.KernelIdeal.main_v13 (by decide) (by decide)),
      Cert.KernelIdeal.Hand.result_read m r h.1 c Cert.KernelIdeal.main_v15 (Pipeline.mem_restRefs_of Cert.KernelIdeal.main_v15 (by decide) (by decide)),
      Cert.KernelIdeal.Hand.result_read m r h.1 c Cert.KernelIdeal.main_v16 (Pipeline.mem_restRefs_of Cert.KernelIdeal.main_v16 (by decide) (by decide)),
      Cert.KernelIdeal.Hand.args_kept m r h.1 c⟩) (Cert.KernelIdeal.Hand.run_exact m g),
    (θ_run _ _ _).mono (fun r h c => ?_) (Cert.ReferenceIdeal.Hand.run_named m' g')⟩
  obtain ⟨h0, h1, h2, h3, h4, hargs⟩ := h c
  obtain ⟨e0, e1, e2, e3, e4, e5, e6, e7, e8, e9, e10, e11, e12, e13, e14, e15⟩ := hm c
  refine ⟨h0.trans ?_, h1.trans ?_, h2.trans ?_, h3.trans ?_, h4.trans ?_, hargs⟩
  · refine ext2 fun n j => (Cert.ReferenceIdeal.Hand.out3_apply _ _ _ _ _ _ _ _ _ _ n j).trans (Eq.trans ?_ (Cert.KernelIdeal.Hand.tail_v12 m c n j).symm)
    rw [e0, e3, e4, e5, e6, e7, e8, e9, e10, e11]
  · refine ext2 fun n j => (Cert.ReferenceIdeal.Hand.out4_apply _ _ _ _ _ _ _ _ _ _ n j).trans (Eq.trans ?_ (Cert.KernelIdeal.Hand.tail_v14 m c n j).symm)
    rw [e0, e3, e4, e5, e6, e7, e8, e9, e14, e15]
  · refine ext2 fun n j => (Cert.ReferenceIdeal.Hand.out3_apply _ _ _ _ _ _ _ _ _ _ n j).trans (Eq.trans ?_ (Cert.KernelIdeal.Hand.tail_v13 m c n j).symm)
    rw [e0, e3, e4, e5, e6, e7, e8, e9, e12, e13]
  · exact (funext (Cert.KernelIdeal.Hand.tail_v15 m c)).symm
  · exact (funext (Cert.KernelIdeal.Hand.tail_v16 m c)).symm

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Tie
public import Idealize.ShloMosaic.Adequacy
public import Idealize.ShloMosaic.Init

@[expose] public section

noncomputable section

namespace Cert.Proof

open Idealize.ShloMosaic Idealize.SL.Sem Cert.Kernel

/-- The certificate: the three frames, the kernel's idealization, and the equality of all five results. -/
theorem claim : Cert.Claim := ⟨Cert.Kernel.Gen.facts, Cert.KernelIdeal.Gen.facts, Cert.ReferenceIdeal.Gen.facts,
  fun m g _ => Cert.Kernel.Hand.run_quiet m g, Cert.KernelIdeal.Hand.quiet, Cert.ReferenceIdeal.Hand.quiet, trivial,
  Cert.Tie.equal_results⟩

end Cert.Proof

end
